-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v24)) (v4 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v24) = v3 c
          ∧ r.2.mem ((c.tc : Thread Cert.KernelIdeal.nD Cert.KernelIdeal.τ).loc Cert.KernelIdeal.main_v25) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v42_5) = v2 c
          ∧ r.2.mem ((c.tc : Thread Cert.ReferenceIdeal.nD Cert.ReferenceIdeal.τ).loc Cert.ReferenceIdeal.main_v42_6) = v3 c
          ∧ r.2.mem ((c.tc : Thread Cert.ReferenceIdeal.nD Cert.ReferenceIdeal.τ).loc Cert.ReferenceIdeal.main_v42_7) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048 : Shape := ⟨1, ![2048]⟩
abbrev S2048x2048 : Shape := ⟨2, ![2048, 2048]⟩
abbrev S1x2048 : Shape := ⟨2, ![1, 2048]⟩
abbrev S4095x2048 : Shape := ⟨2, ![4095, 2048]⟩
abbrev S256x2048 : Shape := ⟨2, ![256, 2048]⟩
abbrev S4096x16x128 : Shape := ⟨3, ![4096, 16, 128]⟩
abbrev S16x128 : Shape := ⟨2, ![16, 128]⟩
abbrev S512x8x128 : Shape := ⟨3, ![512, 8, 128]⟩
abbrev S8x128 : Shape := ⟨2, ![8, 128]⟩
abbrev S1x8x128 : Shape := ⟨3, ![1, 8, 128]⟩

abbrev nBuf : Space → Nat
  | .hbm => 43
  | .vmem => 55
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S1x2048, .f32⟩
  | .hbm, ⟨15, _⟩ => ⟨S4095x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S2048, .f32⟩
  | .hbm, ⟨24, _⟩ => ⟨S2048, .f32⟩
  | .hbm, ⟨25, _⟩ => ⟨S4096x16x128, .f32⟩
  | .hbm, ⟨26, _⟩ => ⟨S4096x16x128, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S4096x16x128, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S2048, .f32⟩
  | .local _ .vmem, ⟨0, _⟩ => ⟨S1x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S2048x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S2048x2048, .f32⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S2048x2048, .f32⟩
  | .local _ .vmem, ⟨22, _⟩ => ⟨S256x2048, .f32⟩
  | .local _ .vmem, ⟨23, _⟩ => ⟨S256x2048, .f32⟩
  | .local _ .vmem, ⟨24, _⟩ => ⟨S512x8x128, .f32⟩
  | .local _ .vmem, ⟨25, _⟩ => ⟨S512x8x128, .f32⟩
  | .local _ .vmem, ⟨26, _⟩ => ⟨S512x8x128, .f32⟩
  | .local _ .vmem, ⟨27, _⟩ => ⟨S512x8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S8x128, .f32⟩
  | .local _ .vmem, ⟨35, _⟩ => ⟨S8x128, .f32⟩
  | .local _ .vmem, ⟨36, _⟩ => ⟨S8x128, .f32⟩
  | .local _ .vmem, ⟨37, _⟩ => ⟨S8x128, .f32⟩
  | .local _ .vmem, ⟨38, _⟩ => ⟨S512x8x128, .f32⟩
  | .local _ .vmem, ⟨39, _⟩ => ⟨S512x8x128, .f32⟩
  | .local _ .vmem, ⟨40, _⟩ => ⟨S8x128, .f32⟩
  | .local _ .vmem, ⟨41, _⟩ => ⟨S8x128, .f32⟩
  | .local _ .vmem, ⟨42, _⟩ => ⟨S8x128, .f32⟩
  | .local _ .vmem, ⟨43, _⟩ => ⟨S8x128, .f32⟩
  | .local _ .vmem, ⟨44, _⟩ => ⟨S8x128, .f32⟩
  | .local _ .vmem, ⟨45, _⟩ => ⟨S8x128, .f32⟩
  | .local _ .vmem, ⟨46, _⟩ => ⟨S256x2048, .f32⟩
  | .local _ .vmem, ⟨47, _⟩ => ⟨S256x2048, .f32⟩
  | .local _ .vmem, ⟨48, _⟩ => ⟨S256x2048, .f32⟩
  | .local _ .vmem, ⟨49, _⟩ => ⟨S256x2048, .f32⟩
  | .local _ .vmem, ⟨50, _⟩ => ⟨S256x2048, .f32⟩
  | .local _ .vmem, ⟨51, _⟩ => ⟨S256x2048, .f32⟩
  | .local _ .vmem, ⟨52, _⟩ => ⟨S2048x2048, .f32⟩
  | .local _ .vmem, ⟨53, _⟩ => ⟨S256x2048, .f32⟩
  | .local _ .vmem, ⟨54, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_stg9_1 : Ref sig .tc := ⟨.vmem, 43, rfl⟩
abbrev cc3_stg10_0 : Ref sig .tc := ⟨.vmem, 44, rfl⟩
abbrev cc3_stg10_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg4_1 : Ref sig .tc := ⟨.vmem, 54, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37
abbrev cc3_sem7_0 : DmaSem sig := 38
abbrev cc3_sem7_1 : DmaSem sig := 39
abbrev cc3_sem8_0 : DmaSem sig := 40
abbrev cc3_sem8_1 : DmaSem sig := 41
abbrev cc3_sem9_0 : DmaSem sig := 42
abbrev cc3_sem9_1 : DmaSem sig := 43
abbrev cc3_sem10_0 : DmaSem sig := 44
abbrev cc3_sem10_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem4_0 : DmaSem sig := 53
abbrev cc4_sem4_1 : DmaSem sig := 54

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S2048x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![2, 8], ![false, false]⟩

@[reducible] def k3_t1_loop : Scf.Loop 32 :=
  let c0_i32_10 : BitVec 32 := 0#32
  let c512_i32 : BitVec 32 := 512#32
  let v13 : BitVec 32 := Scalar.addi c0_i32_10 c512_i32
  let c1_i32 : BitVec 32 := 1#32
  ⟨c0_i32_10, v13, c1_i32⟩
def k3_off1 (k3_t1 : Fin k3_t1_loop.trips) : Fin 3 → Nat :=
  let c0_i32_10 : BitVec 32 := 0#32
  let c1_i32 : BitVec 32 := 1#32
  let arg13 : BitVec 32 := Scf.iv c0_i32_10 c1_i32 k3_t1
  let v18 : Index := Scalar.indexCast arg13
  let c0_18 : Index := 0#32
  let c0_19 : Index := 0#32
  ![v18.toNat, 0, 0]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x8x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x8x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S8x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S8x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S8x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S8x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S8x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S512x8x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S8x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S8x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, false]

abbrev stage3_10 : Fin 2 → Memref sig .tc .vmem S8x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, false]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S256x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S2048x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]
-- ==== ReferenceIdeal.lean ====
abbrev S4096x2048 : Shape := ⟨2, ![4096, 2048]⟩
abbrev S2048 : Shape := ⟨1, ![2048]⟩
abbrev S2048x2048 : Shape := ⟨2, ![2048, 2048]⟩
abbrev S1x2048 : Shape := ⟨2, ![1, 2048]⟩
abbrev S4095x2048 : Shape := ⟨2, ![4095, 2048]⟩
abbrev S_ : Shape := ⟨0, ![]⟩

abbrev nBuf : Space → Nat
  | .hbm => 113
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S1x2048, .f32⟩
  | .hbm, ⟨15, _⟩ => ⟨S4095x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S2048, .f32⟩
  | .hbm, ⟨59, _⟩ => ⟨S2048, .f32⟩
  | .hbm, ⟨60, _⟩ => ⟨S_, .f32⟩
  | .hbm, ⟨61, _⟩ => ⟨S4096x2048, .f32⟩
  | .hbm, ⟨62, _⟩ => ⟨S_, .i32⟩
  | .hbm, ⟨63, _⟩ => ⟨S4096x2048, .f32⟩
  | .hbm, ⟨64, _⟩ => ⟨S4096x2048, .f32⟩
  | .hbm, ⟨65, _⟩ => ⟨S2048, .f32⟩
  | .hbm, ⟨66, _⟩ => ⟨S2048, .f32⟩
  | .hbm, ⟨67, _⟩ => ⟨S_, .i32⟩
  | .hbm, ⟨68, _⟩ => ⟨S2048, .f32⟩
  | .hbm, ⟨69, _⟩ => ⟨S2048, .f32⟩
  | .hbm, ⟨70, _⟩ => ⟨S2048, .f32⟩
  | .hbm, ⟨71, _⟩ => ⟨S4096x2048, .f32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S1x2048, .f32⟩
  | .hbm, ⟨76, _⟩ => ⟨S2048, .f32⟩
  | .hbm, ⟨77, _⟩ => ⟨S_, .i32⟩
  | .hbm, ⟨78, _⟩ => ⟨S1x2048, .f32⟩
  | .hbm, ⟨79, _⟩ => ⟨S2048, .f32⟩
  | .hbm, ⟨80, _⟩ => ⟨S2048, .f32⟩
  | .hbm, ⟨81, _⟩ => ⟨S2048, .f32⟩
  | .hbm, ⟨82, _⟩ => ⟨S2048, .f32⟩
  | .hbm, ⟨83, _⟩ => ⟨S2048, .f32⟩
  | .hbm, ⟨84, _⟩ => ⟨S2048, .f32⟩
  | .hbm, ⟨85, _⟩ => ⟨S2048, .f32⟩
  | .hbm, ⟨86, _⟩ => ⟨S2048, .f32⟩
  | .hbm, ⟨87, _⟩ => ⟨S2048, .f32⟩
  | .hbm, ⟨88, _⟩ => ⟨S2048, .f32⟩
  | .hbm, ⟨89, _⟩ => ⟨S2048, .f32⟩
  | .hbm, ⟨90, _⟩ => ⟨S2048, .f32⟩
  | .hbm, ⟨91, _⟩ => ⟨S2048, .f32⟩
  | .hbm, ⟨92, _⟩ => ⟨S2048, .f32⟩
  | .hbm, ⟨93, _⟩ => ⟨S2048, .f32⟩
  | .hbm, ⟨94, _⟩ => ⟨S2048, .f32⟩
  | .hbm, ⟨95, _⟩ => ⟨S2048, .f32⟩
  | .hbm, ⟨96, _⟩ => ⟨S2048, .f32⟩
  | .hbm, ⟨97, _⟩ => ⟨S2048, .f32⟩
  | .hbm, ⟨98, _⟩ => ⟨S2048, .f32⟩
  | .hbm, ⟨99, _⟩ => ⟨S2048, .f32⟩
  | .hbm, ⟨100, _⟩ => ⟨S2048, .f32⟩
  | .hbm, ⟨101, _⟩ => ⟨S2048, .f32⟩
  | .hbm, ⟨102, _⟩ => ⟨S2048, .f32⟩
  | .hbm, ⟨103, _⟩ => ⟨S1x2048, .f32⟩
  | .hbm, ⟨104, _⟩ => ⟨S_, .i32⟩
  | .hbm, ⟨105, _⟩ => ⟨S4096x2048, .f32⟩
  | .hbm, ⟨106, _⟩ => ⟨S_, .i32⟩
  | .hbm, ⟨107, _⟩ => ⟨S_, .i32⟩
  | .hbm, ⟨108, _⟩ => ⟨S4096x2048, .f32⟩
  | .hbm, ⟨109, _⟩ => ⟨S4096x2048, .f32⟩
  | .hbm, ⟨110, _⟩ => ⟨S4096x2048, .f32⟩
  | .hbm, ⟨111, _⟩ => ⟨S1x2048, .f32⟩
  | .hbm, ⟨112, _⟩ => ⟨S2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_c : Ref sig .tc := ⟨.hbm, 62, rfl⟩
abbrev main_v42_0 : Ref sig .tc := ⟨.hbm, 63, rfl⟩
abbrev main_v42_1 : Ref sig .tc := ⟨.hbm, 64, rfl⟩
abbrev main_v42_2 : Ref sig .tc := ⟨.hbm, 65, rfl⟩
abbrev main_v42_3 : Ref sig .tc := ⟨.hbm, 66, rfl⟩
abbrev main_v42_4 : Ref sig .tc := ⟨.hbm, 67, rfl⟩
abbrev main_v42_5 : Ref sig .tc := ⟨.hbm, 68, rfl⟩
abbrev main_v42_6 : Ref sig .tc := ⟨.hbm, 69, rfl⟩
abbrev main_v42_7 : Ref sig .tc := ⟨.hbm, 70, rfl⟩
abbrev main_v42_8 : Ref sig .tc := ⟨.hbm, 71, rfl⟩
abbrev main_while0c_c_13 : Ref sig .tc := ⟨.hbm, 72, rfl⟩
abbrev main_while0c_v48 : Ref sig .tc := ⟨.hbm, 73, rfl⟩
abbrev main_while0b_call0_c : Ref sig .tc := ⟨.hbm, 74, rfl⟩
abbrev main_while0b_call0_v0 : Ref sig .tc := ⟨.hbm, 75, rfl⟩
abbrev main_while0b_v48 : Ref sig .tc := ⟨.hbm, 76, rfl⟩
abbrev main_while0b_call1_c : Ref sig .tc := ⟨.hbm, 77, rfl⟩
abbrev main_while0b_call1_v0 : Ref sig .tc := ⟨.hbm, 78, rfl⟩
abbrev main_while0b_v49 : Ref sig .tc := ⟨.hbm, 79, rfl⟩
abbrev main_while0b_v50 : Ref sig .tc := ⟨.hbm, 80, rfl⟩
abbrev main_while0b_v51 : Ref sig .tc := ⟨.hbm, 81, rfl⟩
abbrev main_while0b_v52 : Ref sig .tc := ⟨.hbm, 82, rfl⟩
abbrev main_while0b_v53 : Ref sig .tc := ⟨.hbm, 83, rfl⟩
abbrev main_while0b_v54 : Ref sig .tc := ⟨.hbm, 84, rfl⟩
abbrev main_while0b_v55 : Ref sig .tc := ⟨.hbm, 85, rfl⟩
abbrev main_while0b_v56 : Ref sig .tc := ⟨.hbm, 86, rfl⟩
abbrev main_while0b_v57 : Ref sig .tc := ⟨.hbm, 87, rfl⟩
abbrev main_while0b_v58 : Ref sig .tc := ⟨.hbm, 88, rfl⟩
abbrev main_while0b_v59 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_v64 : Ref sig .tc := ⟨.hbm, 94, rfl⟩
abbrev main_while0b_v65 : Ref sig .tc := ⟨.hbm, 95, rfl⟩
abbrev main_while0b_v66 : Ref sig .tc := ⟨.hbm, 96, rfl⟩
abbrev main_while0b_v67 : Ref sig .tc := ⟨.hbm, 97, rfl⟩
abbrev main_while0b_v68 : Ref sig .tc := ⟨.hbm, 98, rfl⟩
abbrev main_while0b_v69 : Ref sig .tc := ⟨.hbm, 99, rfl⟩
abbrev main_while0b_v70 : Ref sig .tc := ⟨.hbm, 100, rfl⟩
abbrev main_while0b_v71 : Ref sig .tc := ⟨.hbm, 101, rfl⟩
abbrev main_while0b_v72 : Ref sig .tc := ⟨.hbm, 102, rfl⟩
abbrev main_while0b_call2_v0 : Ref sig .tc := ⟨.hbm, 103, rfl⟩
abbrev main_while0b_call2_c : Ref sig .tc := ⟨.hbm, 104, rfl⟩
abbrev main_while0b_v73 : Ref sig .tc := ⟨.hbm, 105, rfl⟩
abbrev main_while0b_c_13 : Ref sig .tc := ⟨.hbm, 106, rfl⟩
abbrev main_while0b_v74 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩

abbrev nD : Nat := 1
abbrev τ : Topo := Topo.v7x

variable {F : FTy → Type} [FloatOps F]

abbrev main_while0_count : Scf.Loop 32 := ⟨0#32, 4096#32, 1#32⟩
-- ==== Proof.KernelRun.lean ====
/-
  The kernel's run, as a whole: when it ends, every buffer of a TensorCore that is not a kernel's scratch holds what the
  last boundary of @main says (`W11`). The set-up of the launch is the generated frame's; its conclusion is about every
  such buffer and not about the arguments alone, so that the results can be read.
-/
module

public import proofs.«01_k».proof.Proof.Gen.KernelIdeal.Frame

@[expose] public section

set_option maxRecDepth 16384

noncomputable section

namespace Cert.Proof.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel's @main from zero counters ends, and every unscoped buffer of every core
    then holds the contents of the last boundary. -/
theorem run_bounds : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W11 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c b hb => h c _ (mem_uc b hb))

end Cert.Proof.Kernel

end
-- ==== Proof.Spec.lean ====
/-
  The mathematics of RWKV time mixing, over the extended reals, with no reference to either program: the mixed input of
  a projection, a matrix product of a sequence of rows, and the WKV recurrence of ONE channel ("a lane") — one step,
  the output of one step, and the state after a number of steps. Both programs' results are shown to be these.
-/
module

public import Idealize.ShloMosaic.Lib.ValueIdx
public import Idealize.ShloMosaic.PureOps.Ideal

@[expose] public section

noncomputable section

namespace Cert.Proof.Spec

open Idealize.ShloMosaic Idealize.ShloMosaic.ValueIdx
open scoped BigOperators

/-- A matrix of extended reals. -/
abbrev Arr (n m : ℕ) : Type := (⟨2, ![n, m]⟩ : Shape).Idx → EReal

/-- The input of a projection: the current row and the shifted row mixed by the channel's weight. -/
def mix (tm : Fin 2048 → EReal) (h cx : Arr 4096 2048) : Arr 4096 2048 :=
  fun j => h j * tm (j 1) + cx j * (1 - tm (j 1))

/-- The product of a sequence of rows with a square matrix. -/
def prod (X : Arr 4096 2048) (W : Arr 2048 2048) : Arr 4096 2048 :=
  fun j => ∑ k : Fin 2048, X (ix2 (j 0) k) * W (ix2 k (j 1))

/-- The receptance: the logistic function of every element. -/
def gate (X : Arr 4096 2048) : Arr 4096 2048 := fun j => Ideal.logistic (X j)

/-- The output rows: the input plus the product of the gated WKV rows with the output matrix. -/
def outp (h r y : Arr 4096 2048) (W : Arr 2048 2048) : Arr 4096 2048 :=
  fun j => h j + prod (fun i => r i * y i) W j

/-- The state of one channel of the WKV recurrence: the two running sums and the running maximum of exponents. -/
structure Lane where
  /-- The running numerator. -/
  aa : EReal
  /-- The running denominator. -/
  bb : EReal
  /-- The running maximum exponent. -/
  pp : EReal

/-- One step of the recurrence at decay `w`, key `k` and value `v`. -/
def laneStep (w k v : EReal) (s : Lane) : Lane where
  aa := Ideal.exp (w + s.pp - max (w + s.pp) k) * s.aa + Ideal.exp (k - max (w + s.pp) k) * v
  bb := Ideal.exp (w + s.pp - max (w + s.pp) k) * s.bb + Ideal.exp (k - max (w + s.pp) k)
  pp := max (w + s.pp) k

/-- The output of one step, from the state before it, at bonus `tf`, key `k` and value `v`. -/
def laneOut (tf k v : EReal) (s : Lane) : EReal :=
  Ideal.div
    (Ideal.exp (s.pp - max s.pp (tf + k)) * s.aa + Ideal.exp (tf + k - max s.pp (tf + k)) * v)
    (Ideal.exp (s.pp - max s.pp (tf + k)) * s.bb + Ideal.exp (tf + k - max s.pp (tf + k)))

/-- The state after `n` steps from `s`. -/
def lanes (w : EReal) (k v : ℕ → EReal) (s : Lane) : ℕ → Lane
  | 0 => s
  | n + 1 => laneStep w (k n) (v n) (lanes w k v s n)

/-- The first `n` steps depend on the keys and values before `n` only. -/
theorem lanes_congr (w : EReal) {k k' v v' : ℕ → EReal} (s : Lane) : ∀ n, (∀ i < n, k i = k' i) → (∀ i < n, v i = v' i) →
    lanes w k v s n = lanes w k' v' s n
  | 0, _, _ => rfl
  | n + 1, hk, hv => by
    show laneStep w (k n) (v n) (lanes w k v s n) = laneStep w (k' n) (v' n) (lanes w k' v' s n)
    rw [hk n n.lt_succ_self, hv n n.lt_succ_self,
      lanes_congr w s n (fun i hi => hk i (by omega)) (fun i hi => hv i (by omega))]

/-- Steps from a later start: `b` steps after `a` steps are `a + b` steps. -/
theorem lanes_add (w : EReal) (k v : ℕ → EReal) (s : Lane) (a : ℕ) : ∀ b,
    lanes w (fun i => k (a + i)) (fun i => v (a + i)) (lanes w k v s a) b = lanes w k v s (a + b)
  | 0 => rfl
  | b + 1 => by
    show laneStep w (k (a + b)) (v (a + b)) _ = laneStep w (k (a + b)) (v (a + b)) (lanes w k v s (a + b))
    rw [lanes_add w k v s a b]

/-- Row `n` of an array of 4096 rows, at channel `h` (rows beyond the last read as row `n` modulo 4096). -/
def rowAt (X : Arr 4096 2048) (h : Fin 2048) (n : ℕ) : EReal := X (ix2 ⟨n % 4096, Nat.mod_lt _ (by decide)⟩ h)

/-- Channel `h`'s state after `n` rows of keys `K` and values `V`. -/
def lane (w : Fin 2048 → EReal) (K V : Arr 4096 2048) (aa bb pp : Fin 2048 → EReal) (h : Fin 2048) (n : ℕ) : Lane :=
  lanes (w h) (rowAt K h) (rowAt V h) ⟨aa h, bb h, pp h⟩ n

end Cert.Proof.Spec

end
-- ==== Proof.ProjBlock.lean ====
/-
  What one block of each of the four row-blocked products holds (256 rows by 2048 channels), read at an index: the
  three projections and the output product, at the extended reals.
-/
module

public import proofs.«01_k».proof.Proof.Gen.KernelIdeal.Skeleton
public import proofs.«01_k».proof.Proof.Spec
public import Idealize.ShloMosaic.Lib.MatmulPlain
public import Idealize.ShloMosaic.Lib.IdealHost
public import Idealize.ShloMosaic.Lib.Pipeline.Value

@[expose] public section

noncomputable section

namespace Cert.Proof.Kernel

open Cert.KernelIdeal Cert.KernelIdeal.Gen Cert.Proof.Spec
open Idealize.ShloMosaic Idealize.ShloMosaic.ValueIdx
open scoped BigOperators

/-- A product of a 256-row block with a square matrix into a zero accumulator, read at an index: the sum over the
    contracted channel. -/
theorem block_prod (X : FVec Ideal S256x2048 .f32) (W : FVec Ideal S2048x2048 .f32) (r : Fin 256) (h : Fin 2048) :
    matmul dot_S256x2048_S2048x2048_S256x2048_1_0_0_1_n_n none X W (constant S256x2048 .f32 0x00000000#32) (ix2 r h)
      = ∑ k : Fin 2048, X (ix2 r k) * W (ix2 k h) := by
  refine (Ideal.matmul_plain_apply (M := 256) (K := 2048) (N := 2048) none X W _ r h).trans ?_
  rw [constant_apply, Ideal.ofBits_zero_f32, zero_add]

/-- A one-row array spread over 256 rows reads its row at the channel. -/
theorem row_spread (x : FVec Ideal S1x2048 .f32) (r : Fin 256) (k : Fin 2048) :
    broadcastTo S256x2048 x broadcasts_S1x2048_S256x2048 (ix2 r k) = x (ix2 0 k) :=
  broadcastTo_apply x _ _ _ fun a => by match a with | ⟨0, _⟩ => rfl | ⟨1, _⟩ => rfl

/-- A projection's block: row `r`, channel `h` is the product of the mixed rows with the matrix. -/
theorem k0_pay1_apply (tm : FVec Ideal S1x2048 .f32) (x cx : FVec Ideal S256x2048 .f32) (W : FVec Ideal S2048x2048 .f32)
    (r : Fin 256) (h : Fin 2048) : k0_pay1 (F := Ideal) tm x cx W (ix2 r h)
      = ∑ k : Fin 2048, (x (ix2 r k) * tm (ix2 0 k) + cx (ix2 r k) * (1 - tm (ix2 0 k))) * W (ix2 k h) := by
  unfold k0_pay1
  rw [block_prod]
  refine Finset.sum_congr rfl fun k _ => ?_
  rw [addf_apply, mulf_apply, mulf_apply, row_spread, row_spread, subf_apply, broadcast_apply, shapeCast_self, shapeCast_self]
  rw [show (Scalar.ofBits .f32 0x3F800000#32 : Ideal .f32) = Ideal.ofBits .f32 0x3F800000#32 from rfl, Ideal.ofBits_one_f32]

/-- The value projection's block is the same function. -/
theorem k1_pay1_eq (tm : FVec Ideal S1x2048 .f32) (x cx : FVec Ideal S256x2048 .f32) (W : FVec Ideal S2048x2048 .f32) :
    k1_pay1 (F := Ideal) tm x cx W = k0_pay1 (F := Ideal) tm x cx W := rfl

/-- The receptance's block is the logistic function of it. -/
theorem k2_pay1_eq (tm : FVec Ideal S1x2048 .f32) (x cx : FVec Ideal S256x2048 .f32) (W : FVec Ideal S2048x2048 .f32) :
    k2_pay1 (F := Ideal) tm x cx W = fun y => Ideal.logistic (k0_pay1 (F := Ideal) tm x cx W y) := rfl

/-- The output product's block. -/
theorem k4_pay1_apply (r y x : FVec Ideal S256x2048 .f32) (W : FVec Ideal S2048x2048 .f32) (a : Fin 256) (h : Fin 2048) :
    k4_pay1 (F := Ideal) r y x W (ix2 a h) = x (ix2 a h) + ∑ k : Fin 2048, (r (ix2 a k) * y (ix2 a k)) * W (ix2 k h) := by
  unfold k4_pay1
  rw [addf_apply, block_prod]
  simp only [mulf_apply, shapeCast_self]

end Cert.Proof.Kernel

end
-- ==== Proof.RowBlocks.lean ====
/-
  The four row-blocked products' arrays after their pipelines: the sixteen blocks of 256 rows tile each array, and block
  `t` is rows `256 t .. 256 t + 255` of one whole-array function — a projection (product of mixed rows with a matrix),
  the receptance (its logistic function), or the output rows.
-/
module

public import proofs.«01_k».proof.Proof.Gen.KernelIdeal.Frame
public import proofs.«01_k».proof.Proof.ProjBlock

@[expose] public section

noncomputable section

namespace Cert.Proof.Kernel

open Cert.KernelIdeal Cert.KernelIdeal.Gen Cert.Proof.Spec
open Idealize.ShloMosaic
open Idealize.ShloMosaic.TcCoe Idealize.SL.Sem
open Idealize.ShloMosaic.ValueIdx (ix2 eq_ix2 idx2_lt0 idx2_lt1)
open Idealize.ShloMosaic.Pipeline (Dat Window)
open scoped BigOperators

/-! ## Where a block sits: the same for the four pipelines, whose grids and index maps are one -/

/-- The zero offset of a rank-2 access. -/
theorem zero_off : (![0, 0] : Fin 2 → Nat) = fun _ => 0 := funext fun a => by fin_cases a <;> rfl

/-- The array's row that is row `r` of block `t`. -/
def blkRow (t : Fin grid0.N) (r : Fin 256) : Fin 4096 :=
  ⟨t.val * 256 + r.val, by have := t.isLt; have hN : grid0.N = 16 := N_0; have := r.isLt; omega⟩

/-- The block of point `t`, in block units: the row blocks are block `t`, the weights and the matrix are whole. -/
theorem block_index : ∀ t : Fin grid0.N, (∀ a, win0_0.index t a = 0) ∧ (win0_1.index t 0 = t.val ∧ win0_1.index t 1 = 0)
    ∧ (∀ a, win0_3.index t a = 0) := by decide +kernel

/-- An element of row block `t` sits in its array `256 t` rows down. -/
theorem rows_emb (t : Fin grid0.N) (r : Fin 256) (a : Fin 2048) : (win0_1.rect t).emb (ix2 r a) = ix2 (blkRow t r) a :=
  Shape.idx_ext₂ ((Window.rect_emb_val win0_1 t _ 0).trans (by rw [(block_index t).2.1.1]; rfl))
    (Window.rect_emb_val_of_index_zero win0_1 t 1 (block_index t).2.1.2 _)

/-- The mixing weights' block is the whole row. -/
theorem row_emb (t : Fin grid0.N) (a : Fin 2048) : (win0_0.rect t).emb (ix2 0 a) = ix2 0 a :=
  Shape.idx_ext₂ (Window.rect_emb_val_of_index_zero win0_0 t 0 ((block_index t).1 0) _)
    (Window.rect_emb_val_of_index_zero win0_0 t 1 ((block_index t).1 1) _)

/-- The matrix's block is the whole matrix. -/
theorem mat_emb (t : Fin grid0.N) (k h : Fin 2048) : (win0_3.rect t).emb (ix2 k h) = ix2 k h :=
  Shape.idx_ext₂ (Window.rect_emb_val_of_index_zero win0_3 t 0 ((block_index t).2.2 0) _)
    (Window.rect_emb_val_of_index_zero win0_3 t 1 ((block_index t).2.2 1) _)

/-- An index of an array of rows lies in the block its row divided by 256 names. -/
theorem mem_rows (t : Fin grid0.N) (i : S4096x2048.Idx) (h : (i 0 : ℕ) / 256 = t.val) : i ∈ (win0_1.rect t).set := by
  rw [Rect.mem_set_unit]
  have h1 : (i 1 : ℕ) < 2048 := (i 1).isLt
  intro a
  match a with
  | ⟨0, _⟩ =>
    show win0_1.index t 0 * 256 ≤ (i 0 : ℕ) ∧ (i 0 : ℕ) < win0_1.index t 0 * 256 + 256
    rw [(block_index t).2.1.1]; omega
  | ⟨1, _⟩ =>
    show win0_1.index t 1 * 2048 ≤ (i 1 : ℕ) ∧ (i 1 : ℕ) < win0_1.index t 1 * 2048 + 2048
    rw [(block_index t).2.1.2]; omega

/-- The block a row lies in. -/
def rowBlk (i : S4096x2048.Idx) : Fin grid0.N :=
  ⟨(i 0 : ℕ) / 256, by have h0 : (i 0 : ℕ) < 4096 := (i 0).isLt; have hN : grid0.N = 16 := N_0; omega⟩

/-- A projection's block over blocks of whole arrays is the block of the whole-array product. -/
theorem proj_rows (t : Fin grid0.N) (tm : S1x2048.Idx → EReal) (x cx : Arr 4096 2048) (W : Arr 2048 2048) (r : Fin 256) (h : Fin 2048) :
    k0_pay1 (F := Ideal) (fun y => tm ((win0_0.rect t).emb y)) (fun y => x ((win0_1.rect t).emb y))
        (fun y => cx ((win0_1.rect t).emb y)) (fun y => W ((win0_3.rect t).emb y)) (ix2 r h)
      = prod (mix (fun a => tm (ix2 0 a)) x cx) W ((win0_1.rect t).emb (ix2 r h)) := by
  refine (k0_pay1_apply _ _ _ _ r h).trans ?_
  rw [rows_emb]
  refine Finset.sum_congr rfl fun k _ => ?_
  rw [row_emb, rows_emb, mat_emb]
  rfl

/-- The output product's block over blocks of whole arrays is the block of the whole-array output. -/
theorem outp_rows (t : Fin grid0.N) (x r y : Arr 4096 2048) (W : Arr 2048 2048) (a : Fin 256) (h : Fin 2048) :
    k4_pay1 (F := Ideal) (fun y => r ((win0_1.rect t).emb y)) (fun z => y ((win0_1.rect t).emb z))
        (fun y => x ((win0_1.rect t).emb y)) (fun y => W ((win0_3.rect t).emb y)) (ix2 a h)
      = outp x r y W ((win0_1.rect t).emb (ix2 a h)) := by
  refine (k4_pay1_apply _ _ _ _ a h).trans ?_
  rw [rows_emb]
  refine congrArg (x _ + ·) (Finset.sum_congr rfl fun k _ => ?_)
  rw [rows_emb, mat_emb]

/-! ## The four arrays, at any contents the pipeline is entered with -/

variable (V : (c : Dev nD) → (b : Ref sig .tc) → Buf (Elt Ideal) ((c : Thread nD τ).loc b))

/-- The keys. -/
theorem key_array (c : Dev nD) : (dat0 V c).arrAt 4 cfg0.N
    = prod (mix (fun a => V c main_v3 (ix2 0 a)) (V c main_arg0) (V c main_v2)) (V c main_arg10) := by
  refine (dat0 V c).arrAt_eq_of_cover 4 _ (fun t _ => ?_) fun i => ⟨rowBlk i, flush0_4 _, ?_⟩
  · show (cfg0.win 4).cut (grid0.coords t) ((dat0 V c).after 4 t) = _
    rw [after0_4]
    unfold out0_4
    rw [View.canon_unit_zero zero_off, View.ld_unit_zero zero_off, View.ld_unit_zero zero_off, View.ld_unit_zero zero_off,
      View.ld_unit_zero zero_off]
    funext y
    obtain ⟨r, h, rfl⟩ : ∃ (r : Fin 256) (h : Fin 2048), y = ix2 r h := ⟨y 0, y 1, eq_ix2 y⟩
    exact proj_rows t (V c main_v3) (V c main_arg0) (V c main_v2) (V c main_arg10) r h
  · show i ∈ ((View.whole main_v4).slice (win0_4.rect (rowBlk i))).set
    rw [View.set_slice_whole]
    exact mem_rows _ i rfl

/-- The values. -/
theorem value_array (c : Dev nD) : (dat1 V c).arrAt 4 cfg1.N
    = prod (mix (fun a => V c main_v5 (ix2 0 a)) (V c main_arg0) (V c main_v2)) (V c main_arg11) := by
  refine (dat1 V c).arrAt_eq_of_cover 4 _ (fun t _ => ?_) fun i => ⟨rowBlk i, flush1_4 _, ?_⟩
  · show (cfg1.win 4).cut (grid1.coords t) ((dat1 V c).after 4 t) = _
    rw [after1_4]
    unfold out1_4
    rw [View.canon_unit_zero zero_off, View.ld_unit_zero zero_off, View.ld_unit_zero zero_off, View.ld_unit_zero zero_off,
      View.ld_unit_zero zero_off]
    funext y
    obtain ⟨r, h, rfl⟩ : ∃ (r : Fin 256) (h : Fin 2048), y = ix2 r h := ⟨y 0, y 1, eq_ix2 y⟩
    exact (congrFun (k1_pay1_eq _ _ _ _) _).trans
      (proj_rows t (V c main_v5) (V c main_arg0) (V c main_v2) (V c main_arg11) r h)
  · show i ∈ ((View.whole main_v6).slice (win1_4.rect (rowBlk i))).set
    rw [View.set_slice_whole]
    exact mem_rows _ i rfl

/-- The receptances. -/
theorem gate_array (c : Dev nD) : (dat2 V c).arrAt 4 cfg2.N
    = gate (prod (mix (fun a => V c main_v7 (ix2 0 a)) (V c main_arg0) (V c main_v2)) (V c main_arg12)) := by
  refine (dat2 V c).arrAt_eq_of_cover 4 _ (fun t _ => ?_) fun i => ⟨rowBlk i, flush2_4 _, ?_⟩
  · show (cfg2.win 4).cut (grid2.coords t) ((dat2 V c).after 4 t) = _
    rw [after2_4]
    unfold out2_4
    rw [View.canon_unit_zero zero_off, View.ld_unit_zero zero_off, View.ld_unit_zero zero_off, View.ld_unit_zero zero_off,
      View.ld_unit_zero zero_off]
    funext y
    obtain ⟨r, h, rfl⟩ : ∃ (r : Fin 256) (h : Fin 2048), y = ix2 r h := ⟨y 0, y 1, eq_ix2 y⟩
    exact (congrFun (k2_pay1_eq _ _ _ _) _).trans
      (congrArg Ideal.logistic (proj_rows t (V c main_v7) (V c main_arg0) (V c main_v2) (V c main_arg12) r h))
  · show i ∈ ((View.whole main_v8).slice (win2_4.rect (rowBlk i))).set
    rw [View.set_slice_whole]
    exact mem_rows _ i rfl

/-- The output rows. -/
theorem output_array (c : Dev nD) : (dat4 V c).arrAt 4 cfg4.N
    = outp (V c main_arg0) (V c main_v8) (V c main_v19) (V c main_arg13) := by
  refine (dat4 V c).arrAt_eq_of_cover 4 _ (fun t _ => ?_) fun i => ⟨rowBlk i, flush4_4 _, ?_⟩
  · show (cfg4.win 4).cut (grid4.coords t) ((dat4 V c).after 4 t) = _
    rw [after4_4]
    unfold out4_4
    rw [View.canon_unit_zero zero_off, View.ld_unit_zero zero_off, View.ld_unit_zero zero_off, View.ld_unit_zero zero_off,
      View.ld_unit_zero zero_off]
    funext y
    obtain ⟨r, h, rfl⟩ : ∃ (r : Fin 256) (h : Fin 2048), y = ix2 r h := ⟨y 0, y 1, eq_ix2 y⟩
    exact outp_rows t (V c main_arg0) (V c main_v8) (V c main_v19) (V c main_arg13) r h
  · show i ∈ ((View.whole main_v20).slice (win4_4.rect (rowBlk i))).set
    rw [View.set_slice_whole]
    exact mem_rows _ i rfl

end Cert.Proof.Kernel

end
-- ==== Proof.ScanTrip.lean ====
/-
  One trip of the scan's loop over the 512 rows of a block: what it yields and what it stores, per channel, as one step
  of the recurrence; then the state before any trip, and the rows stored before it, as the recurrence from the loop's
  initial state.
-/
module

public import proofs.«01_k».proof.Proof.Gen.KernelIdeal.Loops
public import proofs.«01_k».proof.Proof.Spec
public import Idealize.ShloMosaic.Lib.Pipeline.Value

@[expose] public section

noncomputable section

namespace Cert.Proof.Kernel

open Cert.KernelIdeal Cert.KernelIdeal.Gen Cert.Proof.Spec
open Idealize.ShloMosaic Idealize.ShloMosaic.Tactic
open Idealize.ShloMosaic.TcCoe Idealize.SL.Sem
open Idealize.ShloMosaic.ValueIdx

/-! ## The payloads, per channel -/

/-- A block of 8 × 128 channels. -/
abbrev Chan : Type := Vec Ideal S8x128 .f32

/-- What the loop carries: the three running blocks. -/
abbrev Carry : Type := FVec Ideal S8x128 .f32 × FVec Ideal S8x128 .f32 × FVec Ideal S8x128 .f32

/-- The state of channel `j` in the carried blocks. -/
def laneOf (p : Carry) (j : S8x128.Idx) : Lane := ⟨p.1 j, p.2.1 j, p.2.2 j⟩

/-- A one-row block, cast to its row, read at a channel. -/
theorem unrow_apply (v : Vec Ideal S1x8x128 .f32) (a : Fin 8) (b : Fin 128) :
    shapeCast S8x128 v shapeCasts_S1x8x128_S8x128 (ix2 a b) = v (ix3 0 a b) :=
  (shapeCast_dropUnit_apply (n := 2) ![8, 128] v shapeCasts_S1x8x128_S8x128 (ix2 a b)).trans
    (congrArg v (funext fun d => by fin_cases d <;> rfl))

/-- A row, cast to a one-row block, read at a channel. -/
theorem row_apply (v : Chan) (z : Fin 1) (a : Fin 8) (b : Fin 128) :
    shapeCast S1x8x128 v shapeCasts_S8x128_S1x8x128 (ix3 z a b) = v (ix2 a b) :=
  (shapeCast_addUnit_apply (n := 2) ![8, 128] v shapeCasts_S8x128_S1x8x128 (ix3 z a b)).trans
    (congrArg v (funext fun d => by fin_cases d <;> rfl))

/-- What a trip yields is one step of the recurrence in every channel. -/
theorem yield_lane (w : Chan) (p : Carry) (k v : Vec Ideal S1x8x128 .f32) (a : Fin 8) (b : Fin 128) :
    laneOf (k3_pay14 (F := Ideal) w p.1 p.2.2 k v, k3_pay15 (F := Ideal) w p.2.1 p.2.2 k, k3_pay11 (F := Ideal) w p.2.2 k) (ix2 a b)
      = laneStep (w (ix2 a b)) (k (ix3 0 a b)) (v (ix3 0 a b)) (laneOf p (ix2 a b)) := by
  have h10 : k3_pay10 (F := Ideal) w p.2.2 (ix2 a b) = w (ix2 a b) + p.2.2 (ix2 a b) := by
    unfold k3_pay10; rw [shapeCast_self]; rfl
  have h7 : k3_pay7 (F := Ideal) k (ix2 a b) = k (ix3 0 a b) := unrow_apply k a b
  have h8 : k3_pay8 (F := Ideal) v (ix2 a b) = v (ix3 0 a b) := unrow_apply v a b
  have h11 : k3_pay11 (F := Ideal) w p.2.2 k (ix2 a b) = max (w (ix2 a b) + p.2.2 (ix2 a b)) (k (ix3 0 a b)) := by
    rw [← h10, ← h7]; rfl
  have h12 : k3_pay12 (F := Ideal) w p.2.2 k (ix2 a b)
      = Ideal.exp (w (ix2 a b) + p.2.2 (ix2 a b) - max (w (ix2 a b) + p.2.2 (ix2 a b)) (k (ix3 0 a b))) := by
    rw [← h11, ← h10]; rfl
  have h13 : k3_pay13 (F := Ideal) w p.2.2 k (ix2 a b)
      = Ideal.exp (k (ix3 0 a b) - max (w (ix2 a b) + p.2.2 (ix2 a b)) (k (ix3 0 a b))) := by
    rw [← h11, ← h7]; rfl
  have h14 : k3_pay14 (F := Ideal) w p.1 p.2.2 k v (ix2 a b)
      = k3_pay12 (F := Ideal) w p.2.2 k (ix2 a b) * p.1 (ix2 a b)
        + k3_pay13 (F := Ideal) w p.2.2 k (ix2 a b) * k3_pay8 (F := Ideal) v (ix2 a b) := rfl
  have h15 : k3_pay15 (F := Ideal) w p.2.1 p.2.2 k (ix2 a b)
      = k3_pay12 (F := Ideal) w p.2.2 k (ix2 a b) * p.2.1 (ix2 a b) + k3_pay13 (F := Ideal) w p.2.2 k (ix2 a b) := rfl
  unfold laneOf laneStep
  dsimp only
  rw [h14, h15, h11, h12, h13, h8]

/-- The row a trip stores is the output of the step in every channel. -/
theorem store_lane (tf : Chan) (p : Carry) (k v : Vec Ideal S1x8x128 .f32) (z : Fin 1) (a : Fin 8) (b : Fin 128) :
    k3_pay9 (F := Ideal) tf p.1 p.2.1 p.2.2 k v (ix3 z a b)
      = laneOut (tf (ix2 a b)) (k (ix3 0 a b)) (v (ix3 0 a b)) (laneOf p (ix2 a b)) := by
  have h7 : k3_pay7 (F := Ideal) k (ix2 a b) = k (ix3 0 a b) := unrow_apply k a b
  have h8 : k3_pay8 (F := Ideal) v (ix2 a b) = v (ix3 0 a b) := unrow_apply v a b
  unfold k3_pay9
  rw [shapeCast_self]
  refine (row_apply _ z a b).trans ?_
  rw [← h7, ← h8]
  rfl

/-! ## A trip -/

/-- Row `n` of a block of 512 rows at channel `j` (rows beyond the last read as row `n` modulo 512). -/
def blockRow (x : Vec Ideal S512x8x128 .f32) (j : S8x128.Idx) (n : ℕ) : EReal :=
  x (ix3 ⟨n % 512, Nat.mod_lt _ (by decide)⟩ (j 0) (j 1))

/-- Channel `j`'s state after `n` rows of the block, from the carried blocks `p`. -/
def scanLane (w : Chan) (K V : Vec Ideal S512x8x128 .f32) (p : Carry) (j : S8x128.Idx) (n : ℕ) : Lane :=
  lanes (w j) (blockRow K j) (blockRow V j) (laneOf p j) n

/-- The rows the scan of a block stores. -/
def scanRows (tf w : Chan) (K V : Vec Ideal S512x8x128 .f32) (p : Carry) : Vec Ideal S512x8x128 .f32 :=
  fun y => laneOut (tf (ix2 (y 1) (y 2))) (K y) (V y) (scanLane w K V p (ix2 (y 1) (y 2)) (y 0).val)

/-- The loop runs at most 512 trips. -/
theorem trip_lt (k : Fin k3_t1_loop.trips) : k.val < 512 := Nat.lt_of_lt_of_le k.isLt k3_t1_abs.2.1

/-- The rectangle of one row of a block: the row's element at channel `(a, b)`. -/
theorem row_rect_emb (k : Fin k3_t1_loop.trips) (z : Fin 1) (a : Fin 8) (b : Fin 128) :
    (Rect.unit (s := S512x8x128) (k3_off1 k) S1x8x128.size (k3_off1_inb k)).emb (ix3 z a b)
      = ix3 ⟨k.val, trip_lt k⟩ a b := by
  have e := k3_off1_eq k
  funext d
  apply Fin.ext
  have hz : z.val = 0 := by have := z.isLt; omega
  match d with
  | ⟨0, _⟩ => show k3_off1 k 0 + 1 * z.val = k.val; rw [e, hz]; rfl
  | ⟨1, _⟩ => show k3_off1 k 1 + 1 * a.val = a.val; rw [e]; show 0 + 1 * a.val = a.val; omega
  | ⟨2, _⟩ => show k3_off1 k 2 + 1 * b.val = b.val; rw [e]; show 0 + 1 * b.val = b.val; omega

variable (𝒱 : Variants) (c : Dev nD) (bd : Option 𝒱.V) (i : grid3.Coords)
  (a2 : Memref sig .tc .vmem S512x8x128 .f32) (h2 : a2.IsWhole) (a3 : Memref sig .tc .vmem S512x8x128 .f32) (h3 : a3.IsWhole)
  (a4 : Memref sig .tc .vmem S8x128 .f32) (h4 : a4.IsWhole) (a5 : Memref sig .tc .vmem S8x128 .f32) (h5 : a5.IsWhole)
  (a6 : Memref sig .tc .vmem S8x128 .f32) (h6 : a6.IsWhole) (a7 : Memref sig .tc .vmem S8x128 .f32) (h7 : a7.IsWhole)
  (a8 : Memref sig .tc .vmem S8x128 .f32) (h8 : a8.IsWhole) (a9 : Memref sig .tc .vmem S512x8x128 .f32) (h9 : a9.IsWhole)
  (a10 : Memref sig .tc .vmem S8x128 .f32) (h10 : a10.IsWhole) (a11 : Memref sig .tc .vmem S8x128 .f32) (h11 : a11.IsWhole)
  (a12 : Memref sig .tc .vmem S8x128 .f32) (h12 : a12.IsWhole) (tf w : Chan)
  (K : BufTy.Contents (Elt Ideal) a2.view.ty) (V : BufTy.Contents (Elt Ideal) a3.view.ty)

/-- The one row trip `k` loads from a block. -/
abbrev loadRow (a : Memref sig .tc .vmem S512x8x128 .f32) (X : BufTy.Contents (Elt Ideal) a.view.ty)
    (k : Fin k3_t1_loop.trips) : Vec Ideal S1x8x128 .f32 :=
  a.view.readAt (Elt Ideal) (Rect.unit (s := S512x8x128) (k3_off1 k) S1x8x128.size (k3_off1_inb k)).toLoadRect X

/-- The loaded row at a channel is the block's row. -/
theorem loadRow_apply (a : Memref sig .tc .vmem S512x8x128 .f32) (X : BufTy.Contents (Elt Ideal) a.view.ty)
    (k : Fin k3_t1_loop.trips) (u : Fin 8) (b : Fin 128) :
    loadRow a X k (ix3 0 u b) = a.view.read (Elt Ideal) X (ix3 ⟨k.val, trip_lt k⟩ u b) :=
  congrArg (a.view.read (Elt Ideal) X) (row_rect_emb k 0 u b)

/-- What trip `k` yields. -/
theorem trip_yield (k : Fin k3_t1_loop.trips) (p : Carry) :
    tripR_k3_t1 (F := Ideal) 𝒱 c bd i a2 h2 a3 h3 a4 h4 a5 h5 a6 h6 a7 h7 a8 h8 a9 h9 a10 h10 a11 h11 a12 h12 tf w K V k p
      = (k3_pay14 w p.1 p.2.2 (loadRow a2 K k) (loadRow a3 V k), k3_pay15 w p.2.1 p.2.2 (loadRow a2 K k),
          k3_pay11 w p.2.2 (loadRow a2 K k)) := by
  unfold tripR_k3_t1 trip_k3_t1
  dsimp only

/-- What trip `k` stores: one row, at row `k`. -/
theorem trip_store (k : Fin k3_t1_loop.trips) (p : Carry) :
    tripL_k3_t1 (F := Ideal) 𝒱 c bd i a2 h2 a3 h3 a4 h4 a5 h5 a6 h6 a7 h7 a8 h8 a9 h9 a10 h10 a11 h11 a12 h12 tf w K V k p
      = [⟨Rect.unit (s := S512x8x128) (k3_off1 k) S1x8x128.size (k3_off1_inb k),
          k3_pay9 tf p.1 p.2.1 p.2.2 (loadRow a2 K k) (loadRow a3 V k)⟩] := by
  unfold tripL_k3_t1 trip_k3_t1
  dsimp only

/-! ## The state before a trip -/

/-- Before trip `n` every channel's state is the recurrence after `n` rows. -/
theorem state_lane (p : Carry) (a : Fin 8) (b : Fin 128) : ∀ n, n ≤ k3_t1_loop.trips →
    laneOf (st_k3_t1 (F := Ideal) 𝒱 c bd i a2 h2 a3 h3 a4 h4 a5 h5 a6 h6 a7 h7 a8 h8 a9 h9 a10 h10 a11 h11 a12 h12 tf w K V p n).1
        (ix2 a b)
      = scanLane w (a2.view.read (Elt Ideal) K) (a3.view.read (Elt Ideal) V) p (ix2 a b) n
  | 0, _ => rfl
  | n + 1, hn => by
    rw [st_k3_t1_succ (F := Ideal) 𝒱 c bd i a2 h2 a3 h3 a4 h4 a5 h5 a6 h6 a7 h7 a8 h8 a9 h9 a10 h10 a11 h11 a12 h12 tf w K V p
      ⟨n, hn⟩]
    dsimp only
    rw [trip_yield, yield_lane, state_lane p a b n (Nat.le_of_succ_le hn), loadRow_apply, loadRow_apply]
    have e : (⟨n % 512, Nat.mod_lt _ (by decide)⟩ : Fin 512) = ⟨n, trip_lt ⟨n, hn⟩⟩ :=
      Fin.ext (Nat.mod_eq_of_lt (trip_lt ⟨n, hn⟩))
    show _ = laneStep _ (a2.view.read (Elt Ideal) K (ix3 ⟨n % 512, _⟩ a b))
      (a3.view.read (Elt Ideal) V (ix3 ⟨n % 512, _⟩ a b)) _
    rw [e]
    rfl

/-- Every row stored before trip `n` is the scan's. -/
theorem state_rows (p : Carry) : ∀ n, n ≤ k3_t1_loop.trips → ∀ q ∈
    (st_k3_t1 (F := Ideal) 𝒱 c bd i a2 h2 a3 h3 a4 h4 a5 h5 a6 h6 a7 h7 a8 h8 a9 h9 a10 h10 a11 h11 a12 h12 tf w K V p n).2,
    ∀ x : q.1.shape.Idx, q.2 x = scanRows tf w (a2.view.read (Elt Ideal) K) (a3.view.read (Elt Ideal) V) p (q.1.emb x)
  | 0, _, q, hq, _ => absurd hq List.not_mem_nil
  | n + 1, hn, q, hq, x => by
    rw [st_k3_t1_succ (F := Ideal) 𝒱 c bd i a2 h2 a3 h3 a4 h4 a5 h5 a6 h6 a7 h7 a8 h8 a9 h9 a10 h10 a11 h11 a12 h12 tf w K V p
      ⟨n, hn⟩] at hq
    dsimp only at hq
    rw [trip_store] at hq
    rcases List.mem_append.mp hq with hq | hq
    · obtain rfl := List.mem_singleton.mp hq
      obtain ⟨z, a, b, rfl⟩ : ∃ (z : Fin 1) (a : Fin 8) (b : Fin 128), x = ix3 z a b := ⟨x 0, x 1, x 2, eq_ix3 x⟩
      refine (store_lane tf _ _ _ z a b).trans ?_
      rw [state_lane 𝒱 c bd i a2 h2 a3 h3 a4 h4 a5 h5 a6 h6 a7 h7 a8 h8 a9 h9 a10 h10 a11 h11 a12 h12 tf w K V p a b n
        (Nat.le_of_succ_le hn), loadRow_apply, loadRow_apply]
      exact (congrArg (scanRows tf w _ _ p) (row_rect_emb ⟨n, hn⟩ z a b)).symm
    · exact state_rows p n (Nat.le_of_succ_le hn) q hq x

/-- Row `r` is stored before trip `n` when `r < n`. -/
theorem state_cover (p : Carry) (y : S512x8x128.Idx) : ∀ n, n ≤ k3_t1_loop.trips → (y 0).val < n → ∃ q ∈
    (st_k3_t1 (F := Ideal) 𝒱 c bd i a2 h2 a3 h3 a4 h4 a5 h5 a6 h6 a7 h7 a8 h8 a9 h9 a10 h10 a11 h11 a12 h12 tf w K V p n).2,
    y ∈ q.1.set
  | 0, _, h => absurd h (Nat.not_lt_zero _)
  | n + 1, hn, h => by
    rw [st_k3_t1_succ (F := Ideal) 𝒱 c bd i a2 h2 a3 h3 a4 h4 a5 h5 a6 h6 a7 h7 a8 h8 a9 h9 a10 h10 a11 h11 a12 h12 tf w K V p
      ⟨n, hn⟩]
    dsimp only
    rw [trip_store]
    by_cases hy : (y 0).val < n
    · obtain ⟨q, hq, hyq⟩ := state_cover p y n (Nat.le_of_succ_le hn) hy
      exact ⟨q, List.mem_append_right _ hq, hyq⟩
    · refine ⟨_, List.mem_append_left _ (List.mem_singleton.mpr rfl), ?_⟩
      obtain ⟨r, a, b, rfl⟩ : ∃ (r : Fin 512) (a : Fin 8) (b : Fin 128), y = ix3 r a b := ⟨y 0, y 1, y 2, eq_ix3 y⟩
      have hr : r.val < n + 1 := h
      have hr' : ¬ r.val < n := hy
      have e : r = ⟨n, trip_lt ⟨n, hn⟩⟩ := Fin.ext (by show r.val = n; omega)
      subst e
      rw [← row_rect_emb ⟨n, hn⟩ 0 a b]
      exact (LoadRect.mem_set _).mpr fun d => ⟨(ix3 0 a b : S1x8x128.Idx) d, (ix3 0 a b : S1x8x128.Idx) d |>.isLt, rfl⟩

/-- The loop runs 512 trips. -/
theorem trips_eq : k3_t1_loop.trips = 512 := by decide

/-- After the loop every channel's state is the recurrence after the block's 512 rows. -/
theorem loop_lane (p : Carry) (j : S8x128.Idx) :
    laneOf (st_k3_t1 (F := Ideal) 𝒱 c bd i a2 h2 a3 h3 a4 h4 a5 h5 a6 h6 a7 h7 a8 h8 a9 h9 a10 h10 a11 h11 a12 h12 tf w K V p
        k3_t1_loop.trips).1 j
      = scanLane w (a2.view.read (Elt Ideal) K) (a3.view.read (Elt Ideal) V) p j 512 := by
  rw [eq_ix2 j]
  refine (state_lane 𝒱 c bd i a2 h2 a3 h3 a4 h4 a5 h5 a6 h6 a7 h7 a8 h8 a9 h9 a10 h10 a11 h11 a12 h12 tf w K V p (j 0) (j 1)
    _ le_rfl).trans ?_
  rw [trips_eq]
  rfl

/-- After the loop the stored rows, read back, are the scan's. -/
theorem loop_rows (p : Carry) :
    View.canon (st_k3_t1 (F := Ideal) 𝒱 c bd i a2 h2 a3 h3 a4 h4 a5 h5 a6 h6 a7 h7 a8 h8 a9 h9 a10 h10 a11 h11 a12 h12 tf w K V p
        k3_t1_loop.trips).2
      = scanRows tf w (a2.view.read (Elt Ideal) K) (a3.view.read (Elt Ideal) V) p :=
  funext fun y => View.canon_apply_of_pieces _ _
    (state_rows 𝒱 c bd i a2 h2 a3 h3 a4 h4 a5 h5 a6 h6 a7 h7 a8 h8 a9 h9 a10 h10 a11 h11 a12 h12 tf w K V p _ le_rfl) y
    (state_cover 𝒱 c bd i a2 h2 a3 h3 a4 h4 a5 h5 a6 h6 a7 h7 a8 h8 a9 h9 a10 h10 a11 h11 a12 h12 tf w K V p y _ le_rfl
      (by rw [trips_eq]; exact (y 0).isLt))

end Cert.Proof.Kernel

end
-- ==== Proof.ScanArray.lean ====
/-
  The scan's four arrays after its pipeline. The grid has two halves of the channels (the outer axis) and eight blocks of
  512 rows (the inner axis): point `t` runs block `t % 8` of half `t / 8`. The state blocks are reset at the first block
  of a half and carried from one block to the next, so after point `t` they hold the recurrence after
  `512 (t % 8 + 1)` rows, and the rows point `t` writes are the recurrence's outputs.
-/
module

public import proofs.«01_k».proof.Proof.Gen.KernelIdeal.Frame
public import proofs.«01_k».proof.Proof.ScanTrip
public import Idealize.ShloMosaic.Lib.Pipeline.ValueKit

@[expose] public section

noncomputable section

namespace Cert.Proof.Kernel

open Cert.KernelIdeal Cert.KernelIdeal.Gen Cert.Proof.Spec
open Idealize.ShloMosaic hiding ix2 ix3 eq_ix2 eq_ix3
open Idealize.ShloMosaic.TcCoe Idealize.SL.Sem
open Idealize.ShloMosaic.ValueIdx (ix2 ix3 eq_ix2 eq_ix3)
open Idealize.ShloMosaic.Pipeline (Dat Window)

/-! ## Where the blocks sit -/

/-- The block of point `t`, in block units: rows' block `t % 8` of half `t / 8`; a state's block is half `t / 8`. -/
theorem scan_index : ∀ t : Fin grid3.N, (win3_0.index t 0 = t.val % 8 ∧ win3_0.index t 1 = t.val / 8 ∧ win3_0.index t 2 = 0)
    ∧ (win3_2.index t 0 = t.val / 8 ∧ win3_2.index t 1 = 0) := by decide +kernel

/-- The array's row that is row `r` of point `t`'s block. -/
def scanRow (t : Fin grid3.N) (r : Fin 512) : Fin 4096 := ⟨t.val % 8 * 512 + r.val, by have := r.isLt; omega⟩

/-- The array's channel row that is channel row `a` of point `t`'s half. -/
def scanChan (t : Fin grid3.N) (a : Fin 8) : Fin 16 :=
  ⟨t.val / 8 * 8 + a.val, by have := t.isLt; have hN : grid3.N = 16 := N_3; have := a.isLt; omega⟩

/-- An element of a block of rows, in its array. -/
theorem scan_rows_emb (t : Fin grid3.N) (r : Fin 512) (a : Fin 8) (b : Fin 128) :
    (win3_0.rect t).emb (ix3 r a b) = ix3 (scanRow t r) (scanChan t a) b := by
  funext d
  match d with
  | ⟨0, _⟩ => exact Fin.ext ((Window.rect_emb_val win3_0 t _ 0).trans (by rw [(scan_index t).1.1]; rfl))
  | ⟨1, _⟩ => exact Fin.ext ((Window.rect_emb_val win3_0 t _ 1).trans (by rw [(scan_index t).1.2.1]; rfl))
  | ⟨2, _⟩ => exact Fin.ext (Window.rect_emb_val_of_index_zero win3_0 t 2 (scan_index t).1.2.2 _)

/-- An element of a block of channels, in its array. -/
theorem scan_chan_emb (t : Fin grid3.N) (a : Fin 8) (b : Fin 128) :
    (win3_2.rect t).emb (ix2 a b) = ix2 (scanChan t a) b :=
  Shape.idx_ext₂ ((Window.rect_emb_val win3_2 t _ 0).trans (by rw [(scan_index t).2.1]; rfl))
    (Window.rect_emb_val_of_index_zero win3_2 t 1 (scan_index t).2.2 _)

/-! ## One point -/

variable (V : (c : Dev nD) → (b : Ref sig .tc) → Buf (Elt Ideal) ((c : Thread nD τ).loc b))

/-- The state blocks point `t` starts from: the initial ones at the first block of a half, what the point before left
    elsewhere. -/
def startOf (c : Dev nD) (t : Fin cfg3.N) : Carry :=
  if t.val % 8 = 0 then (iblk3 V c 2 t, iblk3 V c 3 t, iblk3 V c 4 t)
  else (outsAt3 V c (t.val - 1) (Nat.lt_of_le_of_lt (Nat.sub_le _ _) t.isLt)).2

/-- After point `t` the state blocks are the scan of the point's rows from its start. -/
theorem point_lane (c : Dev nD) (t : Fin cfg3.N) (j : S8x128.Idx) : laneOf (outsAt3 V c t.val t.isLt).2 j
    = scanLane (iblk3 V c 6 t) (iblk3 V c 0 t) (iblk3 V c 1 t) (startOf V c t) j 512 := by
  by_cases h0 : t.val % 8 = 0
  · have e := loop_lane Variants.none c none (grid3.coords t) (ms3_0 t) (hs3_0 t) (ms3_1 t) (hs3_1 t) (ms3_2 t) (hs3_2 t)
      (ms3_3 t) (hs3_3 t) (ms3_4 t) (hs3_4 t) (ms3_5 t) (hs3_5 t) (ms3_6 t) (hs3_6 t) (ms3_7 t) (hs3_7 t) (ms3_8 t) (hs3_8 t)
      (ms3_9 t) (hs3_9 t) (ms3_10 t) (hs3_10 t) (iblk3 V c 5 t) (iblk3 V c 6 t) ((hs3_0 t).unread (iblk3 V c 0 t))
      ((hs3_1 t).unread (iblk3 V c 1 t)) (startOf V c t) j
    rw [(hs3_0 t).read_unread, (hs3_1 t).read_unread] at e
    refine Eq.trans ?_ e
    unfold startOf laneOf
    rw [if_pos h0, outsAt3_A V c t h0]
    frame_out
    unfold k3_pay1 k3_pay2 k3_pay3 k3_pay4 k3_pay5 k3_pay6
    simp only [shapeCast_self]
  · have e := loop_lane Variants.none c none (grid3.coords t) (ms3_0 t) (hs3_0 t) (ms3_1 t) (hs3_1 t) (ms3_2 t) (hs3_2 t)
      (ms3_3 t) (hs3_3 t) (ms3_4 t) (hs3_4 t) (ms3_5 t) (hs3_5 t) (ms3_6 t) (hs3_6 t) (ms3_7 t) (hs3_7 t) (ms3_8 t) (hs3_8 t)
      (ms3_9 t) (hs3_9 t) (ms3_10 t) (hs3_10 t) (iblk3 V c 5 t) (iblk3 V c 6 t) ((hs3_0 t).unread (iblk3 V c 0 t))
      ((hs3_1 t).unread (iblk3 V c 1 t)) (startOf V c t) j
    rw [(hs3_0 t).read_unread, (hs3_1 t).read_unread] at e
    refine Eq.trans ?_ e
    unfold startOf laneOf
    rw [if_neg h0, outsAt3_B V c t h0]
    frame_out
    unfold k3_pay4 k3_pay5 k3_pay6
    simp only [shapeCast_self]

/-- The rows point `t` writes are the scan's rows from its start. -/
theorem point_rows (c : Dev nD) (t : Fin cfg3.N) : (outsAt3 V c t.val t.isLt).1
    = scanRows (iblk3 V c 5 t) (iblk3 V c 6 t) (iblk3 V c 0 t) (iblk3 V c 1 t) (startOf V c t) := by
  have e := loop_rows Variants.none c none (grid3.coords t) (ms3_0 t) (hs3_0 t) (ms3_1 t) (hs3_1 t) (ms3_2 t) (hs3_2 t)
      (ms3_3 t) (hs3_3 t) (ms3_4 t) (hs3_4 t) (ms3_5 t) (hs3_5 t) (ms3_6 t) (hs3_6 t) (ms3_7 t) (hs3_7 t) (ms3_8 t) (hs3_8 t)
      (ms3_9 t) (hs3_9 t) (ms3_10 t) (hs3_10 t) (iblk3 V c 5 t) (iblk3 V c 6 t) ((hs3_0 t).unread (iblk3 V c 0 t))
      ((hs3_1 t).unread (iblk3 V c 1 t)) (startOf V c t)
  rw [(hs3_0 t).read_unread, (hs3_1 t).read_unread] at e
  refine Eq.trans ?_ e
  unfold startOf
  by_cases h0 : t.val % 8 = 0
  · rw [if_pos h0, outsAt3_A V c t h0]
    frame_out
    unfold k3_pay1 k3_pay2 k3_pay3 k3_pay4 k3_pay5 k3_pay6
    simp only [shapeCast_self]
  · rw [if_neg h0, outsAt3_B V c t h0]
    frame_out
    unfold k3_pay4 k3_pay5 k3_pay6
    simp only [shapeCast_self]

/-! ## All points -/

/-- Row `n` of an array of rows of 16 × 128 channels at channel `(A, b)` (rows beyond the last read as row `n` modulo
    4096). -/
def gridRow (X : S4096x16x128.Idx → EReal) (A : Fin 16) (b : Fin 128) (n : ℕ) : EReal :=
  X (ix3 ⟨n % 4096, Nat.mod_lt _ (by decide)⟩ A b)

/-- Channel `(A, b)`'s state after `n` rows, from the arrays the scan is entered with. -/
def gridLane (c : Dev nD) (A : Fin 16) (b : Fin 128) (n : ℕ) : Lane :=
  lanes (V c main_v17 (ix2 A b)) (gridRow (V c main_v11) A b) (gridRow (V c main_v12) A b)
    ⟨V c main_v13 (ix2 A b), V c main_v14 (ix2 A b), V c main_v15 (ix2 A b)⟩ n

/-- A point's scan, from a start that holds the recurrence after the earlier rows, is the recurrence's next rows. -/
theorem scan_grid (c : Dev nD) (t : Fin cfg3.N) (p : Carry) (a : Fin 8) (b : Fin 128)
    (hp : laneOf p (ix2 a b) = gridLane V c (scanChan t a) b (t.val % 8 * 512)) (n : ℕ) (hn : n ≤ 512) :
    scanLane (iblk3 V c 6 t) (iblk3 V c 0 t) (iblk3 V c 1 t) p (ix2 a b) n
      = gridLane V c (scanChan t a) b (t.val % 8 * 512 + n) := by
  have hw : iblk3 V c 6 t (ix2 a b) = V c main_v17 (ix2 (scanChan t a) b) :=
    congrArg (V c main_v17) (scan_chan_emb t a b)
  have hrow : ∀ (X : S4096x16x128.Idx → EReal), ∀ i < n,
      blockRow (fun y => X ((win3_0.rect t).emb y)) (ix2 a b) i = gridRow X (scanChan t a) b (t.val % 8 * 512 + i) := by
    intro X i hi
    refine congrArg X ((scan_rows_emb t ⟨i % 512, Nat.mod_lt _ (by decide)⟩ a b).trans
      (congrArg (fun r => ix3 r (scanChan t a) b) (Fin.ext ?_)))
    show t.val % 8 * 512 + i % 512 = (t.val % 8 * 512 + i) % 4096
    omega
  unfold scanLane gridLane
  rw [hp, hw]
  unfold gridLane
  refine (lanes_congr _ _ n (hrow (V c main_v11)) (hrow (V c main_v12))).trans ?_
  exact lanes_add _ _ _ _ (t.val % 8 * 512) n

/-- Every point starts from the recurrence after the earlier blocks' rows. -/
theorem start_lane (c : Dev nD) : ∀ (m : ℕ) (t : Fin cfg3.N) (_ : t.val = m) (a : Fin 8) (b : Fin 128),
    laneOf (startOf V c t) (ix2 a b) = gridLane V c (scanChan t a) b (t.val % 8 * 512) := by
  intro m
  induction m with
  | zero =>
    intro t ht a b
    unfold startOf
    rw [if_pos (by omega), show t.val % 8 * 512 = 0 by omega]
    have e := scan_chan_emb t a b
    show Lane.mk (V c main_v13 ((win3_2.rect t).emb (ix2 a b))) (V c main_v14 ((win3_2.rect t).emb (ix2 a b)))
      (V c main_v15 ((win3_2.rect t).emb (ix2 a b))) = _
    rw [e]
    rfl
  | succ m ih =>
    intro t ht a b
    unfold startOf
    by_cases h0 : t.val % 8 = 0
    · rw [if_pos h0, show t.val % 8 * 512 = 0 by omega]
      have e := scan_chan_emb t a b
      show Lane.mk (V c main_v13 ((win3_2.rect t).emb (ix2 a b))) (V c main_v14 ((win3_2.rect t).emb (ix2 a b)))
        (V c main_v15 ((win3_2.rect t).emb (ix2 a b))) = _
      rw [e]
      rfl
    · rw [if_neg h0]
      have hlt : t.val - 1 < cfg3.N := Nat.lt_of_le_of_lt (Nat.sub_le _ _) t.isLt
      have e := (point_lane V c ⟨t.val - 1, hlt⟩ (ix2 a b)).trans
        (scan_grid V c ⟨t.val - 1, hlt⟩ _ a b (ih ⟨t.val - 1, hlt⟩ (by show t.val - 1 = m; omega) a b) 512 le_rfl)
      refine e.trans ?_
      have hA : scanChan ⟨t.val - 1, hlt⟩ a = scanChan t a :=
        Fin.ext (by show (t.val - 1) / 8 * 8 + a.val = t.val / 8 * 8 + a.val; omega)
      rw [hA]
      refine congrArg _ ?_
      show (t.val - 1) % 8 * 512 + 512 = t.val % 8 * 512
      omega

/-- After point `t` every channel of its half holds the recurrence after the rows up to the end of its block. -/
theorem after_lane (c : Dev nD) (t : Fin cfg3.N) (a : Fin 8) (b : Fin 128) : laneOf (outsAt3 V c t.val t.isLt).2 (ix2 a b)
    = gridLane V c (scanChan t a) b (t.val % 8 * 512 + 512) :=
  (point_lane V c t (ix2 a b)).trans (scan_grid V c t _ a b (start_lane V c _ t rfl a b) 512 le_rfl)

/-- The rows the scan leaves in its first array. -/
def gridRows (c : Dev nD) : S4096x16x128.Idx → EReal := fun y =>
  laneOut (V c main_v16 (ix2 (y 1) (y 2))) (V c main_v11 y) (V c main_v12 y) (gridLane V c (y 1) (y 2) (y 0).val)

/-- The rows point `t` writes are the recurrence's outputs. -/
theorem after_rows (c : Dev nD) (t : Fin cfg3.N) (r : Fin 512) (a : Fin 8) (b : Fin 128) :
    (outsAt3 V c t.val t.isLt).1 (ix3 r a b) = gridRows V c ((win3_0.rect t).emb (ix3 r a b)) := by
  rw [point_rows]
  show laneOut (V c main_v16 ((win3_2.rect t).emb (ix2 a b))) (V c main_v11 ((win3_0.rect t).emb (ix3 r a b)))
    (V c main_v12 ((win3_0.rect t).emb (ix3 r a b)))
    (scanLane (iblk3 V c 6 t) (iblk3 V c 0 t) (iblk3 V c 1 t) (startOf V c t) (ix2 a b) r.val) = _
  rw [scan_grid V c t _ a b (start_lane V c _ t rfl a b) r.val (by have := r.isLt; omega), scan_chan_emb, scan_rows_emb]
  rfl

/-! ## The arrays -/

/-- An index of the rows' array lies in the block its row and its channel row name. -/
theorem mem_scan_rows (t : Fin grid3.N) (i : S4096x16x128.Idx) (h0 : (i 0 : ℕ) / 512 = t.val % 8)
    (h1 : (i 1 : ℕ) / 8 = t.val / 8) : i ∈ (win3_0.rect t).set := by
  rw [Rect.mem_set_unit]
  have h2 : (i 2 : ℕ) < 128 := (i 2).isLt
  intro d
  match d with
  | ⟨0, _⟩ =>
    show win3_0.index t 0 * 512 ≤ (i 0 : ℕ) ∧ (i 0 : ℕ) < win3_0.index t 0 * 512 + 512
    rw [(scan_index t).1.1]; omega
  | ⟨1, _⟩ =>
    show win3_0.index t 1 * 8 ≤ (i 1 : ℕ) ∧ (i 1 : ℕ) < win3_0.index t 1 * 8 + 8
    rw [(scan_index t).1.2.1]; omega
  | ⟨2, _⟩ =>
    show win3_0.index t 2 * 128 ≤ (i 2 : ℕ) ∧ (i 2 : ℕ) < win3_0.index t 2 * 128 + 128
    rw [(scan_index t).1.2.2]; omega

/-- An index of a state's array lies in the half its channel row names. -/
theorem mem_scan_chan (t : Fin grid3.N) (i : S16x128.Idx) (h0 : (i 0 : ℕ) / 8 = t.val / 8) : i ∈ (win3_2.rect t).set := by
  rw [Rect.mem_set_unit]
  have h1 : (i 1 : ℕ) < 128 := (i 1).isLt
  intro d
  match d with
  | ⟨0, _⟩ =>
    show win3_2.index t 0 * 8 ≤ (i 0 : ℕ) ∧ (i 0 : ℕ) < win3_2.index t 0 * 8 + 8
    rw [(scan_index t).2.1]; omega
  | ⟨1, _⟩ =>
    show win3_2.index t 1 * 128 ≤ (i 1 : ℕ) ∧ (i 1 : ℕ) < win3_2.index t 1 * 128 + 128
    rw [(scan_index t).2.2]; omega

/-- The point that writes an index of the rows' array. -/
def rowsPoint (i : S4096x16x128.Idx) : Fin cfg3.N :=
  ⟨(i 1 : ℕ) / 8 * 8 + (i 0 : ℕ) / 512, by
    have h0 : (i 0 : ℕ) < 4096 := (i 0).isLt; have h1 : (i 1 : ℕ) < 16 := (i 1).isLt
    have hN : cfg3.N = 16 := N_3; omega⟩

/-- The point that writes an index of a state's array: the last of its half. -/
def chanPoint (i : S16x128.Idx) : Fin cfg3.N :=
  ⟨(i 0 : ℕ) / 8 * 8 + 7, by have h0 : (i 0 : ℕ) < 16 := (i 0).isLt; have hN : cfg3.N = 16 := N_3; omega⟩

/-- The array of the recurrence's outputs. -/
theorem rows_array (c : Dev nD) : (dat3 V c).arrAt 7 cfg3.N = gridRows V c := by
  refine (dat3 V c).arrAt_eq_of_cover 7 _ (fun t _ => ?_) fun i => ⟨rowsPoint i, flush3_7 _, ?_⟩
  · show (cfg3.win 7).cut (grid3.coords t) ((dat3 V c).after 7 t) = _
    rw [after3_7]
    funext y
    obtain ⟨r, a, b, rfl⟩ : ∃ (r : Fin 512) (a : Fin 8) (b : Fin 128), y = ix3 r a b := ⟨y 0, y 1, y 2, eq_ix3 y⟩
    exact after_rows V c t r a b
  · show i ∈ ((View.whole main_v18_0).slice (win3_7.rect (rowsPoint i))).set
    rw [View.set_slice_whole]
    have h0 : (i 0 : ℕ) < 4096 := (i 0).isLt
    have h1 : (i 1 : ℕ) < 16 := (i 1).isLt
    exact mem_scan_rows _ i (by show _ = ((i 1 : ℕ) / 8 * 8 + (i 0 : ℕ) / 512) % 8; omega)
      (by show _ = ((i 1 : ℕ) / 8 * 8 + (i 0 : ℕ) / 512) / 8; omega)

/-- After the last point of a half every channel of the half holds the recurrence after all rows. -/
theorem last_lane (c : Dev nD) (t : Fin cfg3.N) (ht : t.val % 8 = 7) (a : Fin 8) (b : Fin 128) :
    laneOf (outsAt3 V c t.val t.isLt).2 (ix2 a b) = gridLane V c (((win3_2.rect t).emb (ix2 a b)) 0)
      (((win3_2.rect t).emb (ix2 a b)) 1) 4096 := by
  rw [after_lane, ht, scan_chan_emb]
  rfl

/-- The array of the running numerators. -/
theorem aa_array (c : Dev nD) : (dat3 V c).arrAt 8 cfg3.N = fun i => (gridLane V c (i 0) (i 1) 4096).aa := by
  refine (dat3 V c).arrAt_eq_of_cover 8 _ (fun t hf => ?_) fun i => ⟨chanPoint i, (flush3_8 _).mpr ?_, ?_⟩
  · show (cfg3.win 8).cut (grid3.coords t) ((dat3 V c).after 8 t) = _
    rw [after3_8]
    funext y
    obtain ⟨a, b, rfl⟩ : ∃ (a : Fin 8) (b : Fin 128), y = ix2 a b := ⟨y 0, y 1, eq_ix2 y⟩
    exact congrArg Lane.aa (last_lane V c t ((flush3_8 t).mp hf) a b)
  · show ((i 0 : ℕ) / 8 * 8 + 7) % 8 = 7; omega
  · show i ∈ ((View.whole main_v18_1).slice (win3_8.rect (chanPoint i))).set
    rw [View.set_slice_whole]
    exact mem_scan_chan _ i (by show _ = ((i 0 : ℕ) / 8 * 8 + 7) / 8; omega)

/-- The array of the running denominators. -/
theorem bb_array (c : Dev nD) : (dat3 V c).arrAt 9 cfg3.N = fun i => (gridLane V c (i 0) (i 1) 4096).bb := by
  refine (dat3 V c).arrAt_eq_of_cover 9 _ (fun t hf => ?_) fun i => ⟨chanPoint i, (flush3_9 _).mpr ?_, ?_⟩
  · show (cfg3.win 9).cut (grid3.coords t) ((dat3 V c).after 9 t) = _
    rw [after3_9]
    funext y
    obtain ⟨a, b, rfl⟩ : ∃ (a : Fin 8) (b : Fin 128), y = ix2 a b := ⟨y 0, y 1, eq_ix2 y⟩
    exact congrArg Lane.bb (last_lane V c t ((flush3_9 t).mp hf) a b)
  · show ((i 0 : ℕ) / 8 * 8 + 7) % 8 = 7; omega
  · show i ∈ ((View.whole main_v18_2).slice (win3_9.rect (chanPoint i))).set
    rw [View.set_slice_whole]
    exact mem_scan_chan _ i (by show _ = ((i 0 : ℕ) / 8 * 8 + 7) / 8; omega)

/-- The array of the running maximum exponents. -/
theorem pp_array (c : Dev nD) : (dat3 V c).arrAt 10 cfg3.N = fun i => (gridLane V c (i 0) (i 1) 4096).pp := by
  refine (dat3 V c).arrAt_eq_of_cover 10 _ (fun t hf => ?_) fun i => ⟨chanPoint i, (flush3_10 _).mpr ?_, ?_⟩
  · show (cfg3.win 10).cut (grid3.coords t) ((dat3 V c).after 10 t) = _
    rw [after3_10]
    funext y
    obtain ⟨a, b, rfl⟩ : ∃ (a : Fin 8) (b : Fin 128), y = ix2 a b := ⟨y 0, y 1, eq_ix2 y⟩
    exact congrArg Lane.pp (last_lane V c t ((flush3_10 t).mp hf) a b)
  · show ((i 0 : ℕ) / 8 * 8 + 7) % 8 = 7; omega
  · show i ∈ ((View.whole main_v18_3).slice (win3_10.rect (chanPoint i))).set
    rw [View.set_slice_whole]
    exact mem_scan_chan _ i (by show _ = ((i 0 : ℕ) / 8 * 8 + 7) / 8; omega)

end Cert.Proof.Kernel

end
-- ==== Proof.Layer.lean ====
/-
  The whole layer as mathematics: its fourteen inputs, and its five results — the output rows, the last input row, and
  the three end states of the WKV recurrence.
-/
module

public import proofs.«01_k».proof.Proof.Spec

@[expose] public section

noncomputable section

namespace Cert.Proof.Spec

open Idealize.ShloMosaic Idealize.ShloMosaic.ValueIdx

/-- One extended real per channel. -/
abbrev Row : Type := (⟨1, ![2048]⟩ : Shape).Idx → EReal

/-- The inputs of the layer. -/
structure Input where
  /-- The rows. -/
  x : Arr 4096 2048
  /-- The row before the first. -/
  sx : Row
  /-- The numerator the recurrence starts from. -/
  aa : Row
  /-- The denominator it starts from. -/
  bb : Row
  /-- The maximum exponent it starts from. -/
  pp : Row
  /-- The logarithm of the decay rate. -/
  decay : Row
  /-- The bonus of the current step. -/
  first : Row
  /-- The mixing weights of the keys. -/
  mixK : Row
  /-- The mixing weights of the values. -/
  mixV : Row
  /-- The mixing weights of the receptance. -/
  mixR : Row
  /-- The key matrix. -/
  Wk : Arr 2048 2048
  /-- The value matrix. -/
  Wv : Arr 2048 2048
  /-- The receptance matrix. -/
  Wr : Arr 2048 2048
  /-- The output matrix. -/
  Wo : Arr 2048 2048

/-- The rows one step late: row 0 is the row before the first. -/
def shift (sx : Row) (x : Arr 4096 2048) : Arr 4096 2048 := fun j =>
  if h : (j 0).val < 1 then sx (ix1 (j 1)) else x (ix2 ⟨(j 0).val - 1, by have := (j 0).isLt; exact Nat.lt_of_le_of_lt (Nat.sub_le _ _) this⟩ (j 1))

namespace Input

variable (I : Input)

/-- A projection: the rows mixed with the late rows, times a matrix. -/
def proj (tm : Row) (W : Arr 2048 2048) : Arr 4096 2048 :=
  prod (mix (fun a => tm (ix1 a)) I.x (shift I.sx I.x)) W

/-- The keys. -/
def key : Arr 4096 2048 := I.proj I.mixK I.Wk

/-- The values. -/
def value : Arr 4096 2048 := I.proj I.mixV I.Wv

/-- The receptance. -/
def recept : Arr 4096 2048 := gate (I.proj I.mixR I.Wr)

/-- The decay of a channel, as an exponent. -/
def rate (h : Fin 2048) : EReal := -Ideal.exp (I.decay (ix1 h))

/-- Channel `h`'s state after `n` rows. -/
def state (h : Fin 2048) (n : ℕ) : Lane :=
  lane I.rate I.key I.value (fun a => I.aa (ix1 a)) (fun a => I.bb (ix1 a)) (fun a => I.pp (ix1 a)) h n

/-- The WKV rows. -/
def rows : Arr 4096 2048 :=
  fun j => laneOut (I.first (ix1 (j 1))) (I.key j) (I.value j) (I.state (j 1) (j 0).val)

/-- Result 1: the output rows. -/
def out : Arr 4096 2048 := outp I.x I.recept I.rows I.Wo

/-- Result 2: the last row. -/
def last : Row := fun i => I.x (ix2 ⟨4095, by decide⟩ (i 0))

/-- Result 3: the numerator after all rows. -/
def aaEnd : Row := fun i => (I.state (i 0) 4096).aa

/-- Result 4: the denominator after all rows. -/
def bbEnd : Row := fun i => (I.state (i 0) 4096).bb

/-- Result 5: the maximum exponent after all rows. -/
def ppEnd : Row := fun i => (I.state (i 0) 4096).pp

end Input

end Cert.Proof.Spec

end
-- ==== Proof.Reshape.lean ====
/-
  The layout operations both programs use, read entry by entry at the layer's shapes: a row of channels as a matrix of
  16 by 128 channels and back, and the rows one step late as a concatenation.
-/
module

public import proofs.«01_k».proof.Proof.Layer
public import Idealize.ShloMosaic.Lib.Pipeline.Value

@[expose] public section

noncomputable section

namespace Cert.Proof.Layout

open Idealize.ShloMosaic Idealize.ShloMosaic.ValueIdx Cert.Proof.Spec

variable {α : Type}

/-- The channel at place `(A, b)` of the 16 by 128 arrangement. -/
def chan (A : Fin 16) (b : Fin 128) : Fin 2048 := ⟨A.val * 128 + b.val, by omega⟩

/-- The place of a channel: its row of 128, -/
def chanRow (h : Fin 2048) : Fin 16 := ⟨h.val / 128, by omega⟩

/-- and its place in the row. -/
def chanCol (h : Fin 2048) : Fin 128 := ⟨h.val % 128, Nat.mod_lt _ (by decide)⟩

theorem chan_place (h : Fin 2048) : chan (chanRow h) (chanCol h) = h := Fin.ext (by simp only [chan, chanRow, chanCol]; omega)

/-- A row of channels as a one-row matrix. -/
theorem row_as_matrix (x : (⟨1, ![2048]⟩ : Shape).Idx → α) (hc : (⟨1, ![2048]⟩ : Shape).ShapeCasts ⟨2, ![1, 2048]⟩) (a : Fin 2048) :
    shapeCast ⟨2, ![1, 2048]⟩ x hc (ix2 0 a) = x (ix1 a) :=
  shapeCast_apply x hc _ _ (by
    rw [Shape.rowMajor_val_one, Shape.rowMajor_val_two]
    show a.val = 0 * 2048 + a.val
    omega)

/-- A one-row matrix as a row of channels. -/
theorem matrix_as_row (x : (⟨2, ![1, 2048]⟩ : Shape).Idx → α) (hc : (⟨2, ![1, 2048]⟩ : Shape).ShapeCasts ⟨1, ![2048]⟩) (a : Fin 2048) :
    shapeCast ⟨1, ![2048]⟩ x hc (ix1 a) = x (ix2 0 a) :=
  shapeCast_apply x hc _ _ (by
    rw [Shape.rowMajor_val_one, Shape.rowMajor_val_two]
    show 0 * 2048 + a.val = a.val
    omega)

/-- A row of channels arranged 16 by 128. -/
theorem row_as_grid (x : (⟨1, ![2048]⟩ : Shape).Idx → α) (hc : (⟨1, ![2048]⟩ : Shape).ShapeCasts ⟨2, ![16, 128]⟩) (A : Fin 16) (b : Fin 128) :
    shapeCast ⟨2, ![16, 128]⟩ x hc (ix2 A b) = x (ix1 (chan A b)) :=
  shapeCast_apply x hc _ _ (by
    rw [Shape.rowMajor_val_one, Shape.rowMajor_val_two]
    rfl)

/-- A 16 by 128 arrangement read as a row of channels. -/
theorem grid_as_row (x : (⟨2, ![16, 128]⟩ : Shape).Idx → α) (hc : (⟨2, ![16, 128]⟩ : Shape).ShapeCasts ⟨1, ![2048]⟩) (h : Fin 2048) :
    shapeCast ⟨1, ![2048]⟩ x hc (ix1 h) = x (ix2 (chanRow h) (chanCol h)) :=
  shapeCast_apply x hc _ _ (by
    rw [Shape.rowMajor_val_one, Shape.rowMajor_val_two]
    exact congrArg Fin.val (chan_place h))

/-- Rows of channels, each arranged 16 by 128. -/
theorem rows_as_grids (x : (⟨2, ![4096, 2048]⟩ : Shape).Idx → α) (hc : (⟨2, ![4096, 2048]⟩ : Shape).ShapeCasts ⟨3, ![4096, 16, 128]⟩)
    (t : Fin 4096) (A : Fin 16) (b : Fin 128) :
    shapeCast ⟨3, ![4096, 16, 128]⟩ x hc (ix3 t A b) = x (ix2 t (chan A b)) :=
  shapeCast_apply x hc _ _ (by
    rw [Shape.rowMajor_val_two, Shape.rowMajor_val_three]
    show t.val * 2048 + (A.val * 128 + b.val) = (t.val * 16 + A.val) * 128 + b.val
    omega)

/-- 16 by 128 arrangements read as rows of channels. -/
theorem grids_as_rows (x : (⟨3, ![4096, 16, 128]⟩ : Shape).Idx → α) (hc : (⟨3, ![4096, 16, 128]⟩ : Shape).ShapeCasts ⟨2, ![4096, 2048]⟩)
    (t : Fin 4096) (h : Fin 2048) :
    shapeCast ⟨2, ![4096, 2048]⟩ x hc (ix2 t h) = x (ix3 t (chanRow h) (chanCol h)) :=
  shapeCast_apply x hc _ _ (by
    rw [Shape.rowMajor_val_two, Shape.rowMajor_val_three]
    show (t.val * 16 + h.val / 128) * 128 + h.val % 128 = t.val * 2048 + h.val
    omega)

/-- The last row of a matrix of rows, taken out as a one-row matrix. -/
theorem last_row (x : (⟨2, ![4096, 2048]⟩ : Shape).Idx → α) (hs : (⟨2, ![4096, 2048]⟩ : Shape).Slices ![4095, 0] ⟨2, ![1, 2048]⟩) (a : Fin 2048) :
    extractStridedSlice ⟨2, ![1, 2048]⟩ ![4095, 0] x hs (ix2 0 a) = x (ix2 ⟨4095, by decide⟩ a) :=
  extractStridedSlice_apply _ x hs _ _ (fun d => by
    match d with
    | ⟨0, _⟩ => rfl
    | ⟨1, _⟩ => show a.val = 0 + a.val; omega)

/-- A row put before the first 4095 rows: the rows one step late. -/
theorem late_rows (sx : Row) (x : Arr 4096 2048) (hb : (⟨1, ![2048]⟩ : Shape).BroadcastsInDim ⟨2, ![1, 2048]⟩ ![1])
    (hs : (⟨2, ![4096, 2048]⟩ : Shape).Slices ![0, 0] ⟨2, ![4095, 2048]⟩)
    (hc : Shape.Concatenates [⟨2, ![1, 2048]⟩, ⟨2, ![4095, 2048]⟩] ⟨2, ![4096, 2048]⟩ 0) :
    concatenate ⟨2, ![4096, 2048]⟩ 0 [⟨⟨2, ![1, 2048]⟩, broadcastInDim ⟨2, ![1, 2048]⟩ ![1] hb sx⟩,
      ⟨⟨2, ![4095, 2048]⟩, extractStridedSlice ⟨2, ![4095, 2048]⟩ ![0, 0] x hs⟩] hc = shift sx x := by
  funext j
  unfold shift
  split
  · rename_i h0
    refine (concatenate_pair_apply_left (t := ⟨2, ![4096, 2048]⟩) (s₁ := ⟨2, ![1, 2048]⟩) (s₂ := ⟨2, ![4095, 2048]⟩) 0 _ _ hc j rfl (ix2 0 (j 1)) (fun d => ?_)).trans ?_
    · match d with
      | ⟨0, _⟩ => show 0 = (j 0).val; omega
      | ⟨1, _⟩ => rfl
    · refine broadcastInDim_apply _ hb sx _ _ fun d => ?_
      match d with
      | ⟨0, _⟩ => rfl
  · rename_i h0
    have hlt : (j 0).val < 4096 := (j 0).isLt
    refine (concatenate_pair_apply_right (t := ⟨2, ![4096, 2048]⟩) (s₁ := ⟨2, ![1, 2048]⟩) (s₂ := ⟨2, ![4095, 2048]⟩) 0 _ _ hc j rfl rfl
      (ix2 ⟨(j 0).val - 1, by omega⟩ (j 1)) (fun d hd => ?_) ?_).trans ?_
    · match d with
      | ⟨0, _⟩ => exact absurd rfl hd
      | ⟨1, _⟩ => rfl
    · show (j 0).val - 1 + 1 = (j 0).val; omega
    · refine extractStridedSlice_apply _ x hs _ _ fun d => ?_
      match d with
      | ⟨0, _⟩ => show (j 0).val - 1 = 0 + ((j 0).val - 1); omega
      | ⟨1, _⟩ => show (j 1).val = 0 + (j 1).val; omega

end Cert.Proof.Layout

end
-- ==== Proof.KernelValue.lean ====
/-
  What the kernel's results hold when it ends: the layer's five results, of the contents of the argument arrays at
  launch. The boundary contents of @main are followed from item to item: each pipeline's array is the theorem about it, a
  reshape is read entry by entry, and every other buffer is unchanged.
-/
module

public import proofs.«01_k».proof.Proof.KernelRun
public import proofs.«01_k».proof.Proof.RowBlocks
public import proofs.«01_k».proof.Proof.ScanArray
public import proofs.«01_k».proof.Proof.Reshape
public import Idealize.ShloMosaic.Lib.IdealHost

@[expose] public section

noncomputable section

namespace Cert.Proof.Kernel

open Cert.KernelIdeal Cert.KernelIdeal.Gen Cert.Proof.Spec Cert.Proof.Layout
open Idealize.ShloMosaic hiding ix1 ix2 ix3 eq_ix1 eq_ix2 eq_ix3
open Idealize.ShloMosaic.TcCoe Idealize.SL.Sem
open Idealize.ShloMosaic.ValueIdx (ix1 ix2 ix3 eq_ix1 eq_ix2 eq_ix3)
open Idealize.ShloMosaic.Pipeline (Dat Window)

variable (m : (ℓ : Loc nD τ sig) → Buf (Elt Ideal) ℓ) (ρ : Dev nD → PrngReg) (c : Dev nD)

/-- The layer's inputs: the argument arrays of a core at launch. -/
def input : Input where
  x := m ((c.tc : Thread nD τ).loc main_arg0)
  sx := m ((c.tc : Thread nD τ).loc main_arg1)
  aa := m ((c.tc : Thread nD τ).loc main_arg2)
  bb := m ((c.tc : Thread nD τ).loc main_arg3)
  pp := m ((c.tc : Thread nD τ).loc main_arg4)
  decay := m ((c.tc : Thread nD τ).loc main_arg5)
  first := m ((c.tc : Thread nD τ).loc main_arg6)
  mixK := m ((c.tc : Thread nD τ).loc main_arg7)
  mixV := m ((c.tc : Thread nD τ).loc main_arg8)
  mixR := m ((c.tc : Thread nD τ).loc main_arg9)
  Wk := m ((c.tc : Thread nD τ).loc main_arg10)
  Wv := m ((c.tc : Thread nD τ).loc main_arg11)
  Wr := m ((c.tc : Thread nD τ).loc main_arg12)
  Wo := m ((c.tc : Thread nD τ).loc main_arg13)

/-! ## The three projections -/

/-- The rows one step late, when the first pipeline is entered. -/
theorem late_entry : W1 m ρ c (Proc.devRef .tc main_v2) = shift (input m c).sx (input m c).x := by
  show StableHlo.after hostOps0 (W0 m ρ c) _ = _
  after_results
  exact late_rows (input m c).sx (input m c).x _ _ _

/-- The keys' mixing weights, when the first pipeline is entered. -/
theorem mixK_entry (a : Fin 2048) : W1 m ρ c (Proc.devRef .tc main_v3) (ix2 0 a) = (input m c).mixK (ix1 a) := by
  have h : W1 m ρ c (Proc.devRef .tc main_v3) = shapeCast S1x2048 (input m c).mixK shapeCasts_S2048_S1x2048 := by
    show StableHlo.after hostOps0 (W0 m ρ c) _ = _
    after_results
    rfl
  rw [h]
  exact row_as_matrix _ _ a

/-- The keys, when the first pipeline is left. -/
theorem key_exit : W2 m ρ c (Proc.devRef .tc main_v4) = (input m c).key := by
  refine (W2_arr m ρ c 4).trans ((key_array (V1 m ρ) c).trans ?_)
  unfold Input.key Input.proj
  rw [show V1 m ρ c main_v2 = shift (input m c).sx (input m c).x from late_entry m ρ c,
    show (fun a => V1 m ρ c main_v3 (ix2 0 a)) = fun a => (input m c).mixK (ix1 a) from funext (mixK_entry m ρ c),
    show V1 m ρ c main_arg0 = (input m c).x from W1_args m ρ c _ (by decide),
    show V1 m ρ c main_arg10 = (input m c).Wk from W1_args m ρ c _ (by decide)]

/-- The values' mixing weights, when the second pipeline is entered. -/
theorem mixV_entry (a : Fin 2048) : W3 m ρ c (Proc.devRef .tc main_v5) (ix2 0 a) = (input m c).mixV (ix1 a) := by
  have h : W3 m ρ c (Proc.devRef .tc main_v5) = shapeCast S1x2048 (W2 m ρ c (Proc.devRef .tc main_arg8)) shapeCasts_S2048_S1x2048 := by
    show StableHlo.after hostOps1 (W2 m ρ c) _ = _
    after_results
    rfl
  rw [h, W2_args m ρ c _ (by decide)]
  exact row_as_matrix _ _ a

/-- The values, when the second pipeline is left. -/
theorem value_exit : W4 m ρ c (Proc.devRef .tc main_v6) = (input m c).value := by
  refine (W4_arr m ρ c 4).trans ((value_array (V3 m ρ) c).trans ?_)
  unfold Input.value Input.proj
  rw [show V3 m ρ c main_v2 = shift (input m c).sx (input m c).x from
      (W3_of m ρ c _ (by decide)).trans ((W2_of m ρ c _ (by decide)).trans (late_entry m ρ c)),
    show (fun a => V3 m ρ c main_v5 (ix2 0 a)) = fun a => (input m c).mixV (ix1 a) from funext (mixV_entry m ρ c),
    show V3 m ρ c main_arg0 = (input m c).x from W3_args m ρ c _ (by decide),
    show V3 m ρ c main_arg11 = (input m c).Wv from W3_args m ρ c _ (by decide)]

/-- The receptance's mixing weights, when the third pipeline is entered. -/
theorem mixR_entry (a : Fin 2048) : W5 m ρ c (Proc.devRef .tc main_v7) (ix2 0 a) = (input m c).mixR (ix1 a) := by
  have h : W5 m ρ c (Proc.devRef .tc main_v7) = shapeCast S1x2048 (W4 m ρ c (Proc.devRef .tc main_arg9)) shapeCasts_S2048_S1x2048 := by
    show StableHlo.after hostOps2 (W4 m ρ c) _ = _
    after_results
    rfl
  rw [h, W4_args m ρ c _ (by decide)]
  exact row_as_matrix _ _ a

/-- The receptance, when the third pipeline is left. -/
theorem recept_exit : W6 m ρ c (Proc.devRef .tc main_v8) = (input m c).recept := by
  refine (W6_arr m ρ c 4).trans ((gate_array (V5 m ρ) c).trans ?_)
  unfold Input.recept Input.proj
  rw [show V5 m ρ c main_v2 = shift (input m c).sx (input m c).x from
      (W5_of m ρ c _ (by decide)).trans ((W4_of m ρ c _ (by decide)).trans
        ((W3_of m ρ c _ (by decide)).trans ((W2_of m ρ c _ (by decide)).trans (late_entry m ρ c)))),
    show (fun a => V5 m ρ c main_v7 (ix2 0 a)) = fun a => (input m c).mixR (ix1 a) from funext (mixR_entry m ρ c),
    show V5 m ρ c main_arg0 = (input m c).x from W5_args m ρ c _ (by decide),
    show V5 m ρ c main_arg12 = (input m c).Wr from W5_args m ρ c _ (by decide)]

/-! ## The scan's entry: every operand arranged 16 by 128 -/

/-- The keys. -/
theorem key_grid (t : Fin 4096) (A : Fin 16) (b : Fin 128) :
    W7 m ρ c (Proc.devRef .tc main_v11) (ix3 t A b) = (input m c).key (ix2 t (chan A b)) := by
  have h : W7 m ρ c (Proc.devRef .tc main_v11) = shapeCast S4096x16x128 (W6 m ρ c (Proc.devRef .tc main_v4)) shapeCasts_S4096x2048_S4096x16x128 := by
    show StableHlo.after hostOps3 (W6 m ρ c) _ = _
    after_results
    rfl
  rw [h, W6_of m ρ c _ (by decide), W5_of m ρ c _ (by decide), W4_of m ρ c _ (by decide), W3_of m ρ c _ (by decide), key_exit m ρ c]
  exact rows_as_grids _ _ t A b

/-- The values. -/
theorem value_grid (t : Fin 4096) (A : Fin 16) (b : Fin 128) :
    W7 m ρ c (Proc.devRef .tc main_v12) (ix3 t A b) = (input m c).value (ix2 t (chan A b)) := by
  have h : W7 m ρ c (Proc.devRef .tc main_v12) = shapeCast S4096x16x128 (W6 m ρ c (Proc.devRef .tc main_v6)) shapeCasts_S4096x2048_S4096x16x128 := by
    show StableHlo.after hostOps3 (W6 m ρ c) _ = _
    after_results
    rfl
  rw [h, W6_of m ρ c _ (by decide), W5_of m ρ c _ (by decide), value_exit m ρ c]
  exact rows_as_grids _ _ t A b

/-- The numerator's start. -/
theorem aa_grid (A : Fin 16) (b : Fin 128) :
    W7 m ρ c (Proc.devRef .tc main_v13) (ix2 A b) = (input m c).aa (ix1 (chan A b)) := by
  have h : W7 m ρ c (Proc.devRef .tc main_v13) = shapeCast S16x128 (W6 m ρ c (Proc.devRef .tc main_arg2)) shapeCasts_S2048_S16x128 := by
    show StableHlo.after hostOps3 (W6 m ρ c) _ = _
    after_results
    rfl
  rw [h, W6_args m ρ c _ (by decide)]
  exact row_as_grid _ _ A b

/-- The denominator's start. -/
theorem bb_grid (A : Fin 16) (b : Fin 128) :
    W7 m ρ c (Proc.devRef .tc main_v14) (ix2 A b) = (input m c).bb (ix1 (chan A b)) := by
  have h : W7 m ρ c (Proc.devRef .tc main_v14) = shapeCast S16x128 (W6 m ρ c (Proc.devRef .tc main_arg3)) shapeCasts_S2048_S16x128 := by
    show StableHlo.after hostOps3 (W6 m ρ c) _ = _
    after_results
    rfl
  rw [h, W6_args m ρ c _ (by decide)]
  exact row_as_grid _ _ A b

/-- The maximum exponent's start. -/
theorem pp_grid (A : Fin 16) (b : Fin 128) :
    W7 m ρ c (Proc.devRef .tc main_v15) (ix2 A b) = (input m c).pp (ix1 (chan A b)) := by
  have h : W7 m ρ c (Proc.devRef .tc main_v15) = shapeCast S16x128 (W6 m ρ c (Proc.devRef .tc main_arg4)) shapeCasts_S2048_S16x128 := by
    show StableHlo.after hostOps3 (W6 m ρ c) _ = _
    after_results
    rfl
  rw [h, W6_args m ρ c _ (by decide)]
  exact row_as_grid _ _ A b

/-- The bonus. -/
theorem first_grid (A : Fin 16) (b : Fin 128) :
    W7 m ρ c (Proc.devRef .tc main_v16) (ix2 A b) = (input m c).first (ix1 (chan A b)) := by
  have h : W7 m ρ c (Proc.devRef .tc main_v16) = shapeCast S16x128 (W6 m ρ c (Proc.devRef .tc main_arg6)) shapeCasts_S2048_S16x128 := by
    show StableHlo.after hostOps3 (W6 m ρ c) _ = _
    after_results
    rfl
  rw [h, W6_args m ρ c _ (by decide)]
  exact row_as_grid _ _ A b

/-- The decay. -/
theorem rate_grid (A : Fin 16) (b : Fin 128) :
    W7 m ρ c (Proc.devRef .tc main_v17) (ix2 A b) = (input m c).rate (chan A b) := by
  have h : W7 m ρ c (Proc.devRef .tc main_v17) = shapeCast S16x128
      (Host.negf (F := Ideal) (φ := .f32) (Host.exp (F := Ideal) (φ := .f32) (W6 m ρ c (Proc.devRef .tc main_arg5)))) shapeCasts_S2048_S16x128 := by
    show StableHlo.after hostOps3 (W6 m ρ c) _ = _
    after_results
    rfl
  rw [h, W6_args m ρ c _ (by decide)]
  exact row_as_grid _ _ A b

/-! ## The scan's exit -/

/-- A channel's state in the 16 by 128 arrangement is that channel's state. -/
theorem grid_state (A : Fin 16) (b : Fin 128) (n : ℕ) (hn : n ≤ 4096) :
    gridLane (V7 m ρ) c A b n = (input m c).state (chan A b) n := by
  unfold gridLane Input.state lane
  rw [show V7 m ρ c main_v17 (ix2 A b) = _ from rate_grid m ρ c A b, show V7 m ρ c main_v13 (ix2 A b) = _ from aa_grid m ρ c A b,
    show V7 m ρ c main_v14 (ix2 A b) = _ from bb_grid m ρ c A b, show V7 m ρ c main_v15 (ix2 A b) = _ from pp_grid m ρ c A b]
  refine lanes_congr _ _ n (fun i hi => ?_) (fun i hi => ?_)
  · exact key_grid m ρ c _ A b
  · exact value_grid m ρ c _ A b

/-- The WKV rows, in the 16 by 128 arrangement. -/
theorem grid_rows (t : Fin 4096) (A : Fin 16) (b : Fin 128) :
    gridRows (V7 m ρ) c (ix3 t A b) = (input m c).rows (ix2 t (chan A b)) := by
  show laneOut (V7 m ρ c main_v16 (ix2 A b)) (V7 m ρ c main_v11 (ix3 t A b)) (V7 m ρ c main_v12 (ix3 t A b)) (gridLane (V7 m ρ) c A b t.val) = _
  rw [show V7 m ρ c main_v16 (ix2 A b) = _ from first_grid m ρ c A b, show V7 m ρ c main_v11 (ix3 t A b) = _ from key_grid m ρ c t A b,
    show V7 m ρ c main_v12 (ix3 t A b) = _ from value_grid m ρ c t A b, grid_state m ρ c A b t.val (le_of_lt t.isLt)]
  rfl

/-- The WKV rows, when the last pipeline is entered. -/
theorem rows_entry : W9 m ρ c (Proc.devRef .tc main_v19) = (input m c).rows := by
  have h : W9 m ρ c (Proc.devRef .tc main_v19) = shapeCast S4096x2048 (W8 m ρ c (Proc.devRef .tc main_v18_0)) shapeCasts_S4096x16x128_S4096x2048 := by
    show StableHlo.after hostOps4 (W8 m ρ c) _ = _
    after_results
    rfl
  rw [h, show W8 m ρ c (Proc.devRef .tc main_v18_0) = gridRows (V7 m ρ) c from (W8_arr m ρ c 7).trans (rows_array (V7 m ρ) c)]
  funext j
  obtain ⟨t, a, rfl⟩ : ∃ t a, j = ix2 t a := ⟨j 0, j 1, eq_ix2 j⟩
  refine (grids_as_rows _ _ t a).trans ((grid_rows m ρ c t _ _).trans ?_)
  rw [chan_place]

/-- Result 1: the output rows. -/
theorem out_exit : W11 m ρ c (Proc.devRef .tc main_v20) = (input m c).out := by
  rw [W11_of m ρ c _ (by decide)]
  refine (W10_arr m ρ c 4).trans ((output_array (V9 m ρ) c).trans ?_)
  unfold Input.out
  rw [show V9 m ρ c main_v19 = (input m c).rows from rows_entry m ρ c,
    show V9 m ρ c main_v8 = (input m c).recept from
      (W9_of m ρ c _ (by decide)).trans ((W8_of m ρ c _ (by decide)).trans ((W7_of m ρ c _ (by decide)).trans (recept_exit m ρ c))),
    show V9 m ρ c main_arg0 = (input m c).x from W9_args m ρ c _ (by decide),
    show V9 m ρ c main_arg13 = (input m c).Wo from W9_args m ρ c _ (by decide)]

/-- Result 2: the last row. -/
theorem last_exit : W11 m ρ c (Proc.devRef .tc main_v22) = (input m c).last := by
  have h : W11 m ρ c (Proc.devRef .tc main_v22) = shapeCast S2048
      (extractStridedSlice S1x2048 ![4095, 0] (W10 m ρ c (Proc.devRef .tc main_arg0)) slices_S4096x2048_S1x2048_4095_0) shapeCasts_S1x2048_S2048 := by
    show StableHlo.after hostOps5 (W10 m ρ c) _ = _
    after_results
    rfl
  rw [h, W10_args m ρ c _ (by decide)]
  funext i
  obtain ⟨a, rfl⟩ : ∃ a, i = ix1 a := ⟨i 0, eq_ix1 i⟩
  exact (matrix_as_row _ _ a).trans (last_row _ _ a)

/-- Result 3: the numerator after all rows. -/
theorem aa_exit : W11 m ρ c (Proc.devRef .tc main_v23) = (input m c).aaEnd := by
  have h : W11 m ρ c (Proc.devRef .tc main_v23) = shapeCast S2048 (W10 m ρ c (Proc.devRef .tc main_v18_1)) shapeCasts_S16x128_S2048 := by
    show StableHlo.after hostOps5 (W10 m ρ c) _ = _
    after_results
    rfl
  rw [h, W10_of m ρ c _ (by decide), W9_of m ρ c _ (by decide), show W8 m ρ c (Proc.devRef .tc main_v18_1) = _ from (W8_arr m ρ c 8).trans (aa_array (V7 m ρ) c)]
  funext i
  obtain ⟨a, rfl⟩ : ∃ a, i = ix1 a := ⟨i 0, eq_ix1 i⟩
  refine (grid_as_row _ _ a).trans ((congrArg Lane.aa (grid_state m ρ c (chanRow a) (chanCol a) 4096 le_rfl)).trans ?_)
  rw [chan_place]
  rfl

/-- Result 4: the denominator after all rows. -/
theorem bb_exit : W11 m ρ c (Proc.devRef .tc main_v24) = (input m c).bbEnd := by
  have h : W11 m ρ c (Proc.devRef .tc main_v24) = shapeCast S2048 (W10 m ρ c (Proc.devRef .tc main_v18_2)) shapeCasts_S16x128_S2048 := by
    show StableHlo.after hostOps5 (W10 m ρ c) _ = _
    after_results
    rfl
  rw [h, W10_of m ρ c _ (by decide), W9_of m ρ c _ (by decide), show W8 m ρ c (Proc.devRef .tc main_v18_2) = _ from (W8_arr m ρ c 9).trans (bb_array (V7 m ρ) c)]
  funext i
  obtain ⟨a, rfl⟩ : ∃ a, i = ix1 a := ⟨i 0, eq_ix1 i⟩
  refine (grid_as_row _ _ a).trans ((congrArg Lane.bb (grid_state m ρ c (chanRow a) (chanCol a) 4096 le_rfl)).trans ?_)
  rw [chan_place]
  rfl

/-- Result 5: the maximum exponent after all rows. -/
theorem pp_exit : W11 m ρ c (Proc.devRef .tc main_v25) = (input m c).ppEnd := by
  have h : W11 m ρ c (Proc.devRef .tc main_v25) = shapeCast S2048 (W10 m ρ c (Proc.devRef .tc main_v18_3)) shapeCasts_S16x128_S2048 := by
    show StableHlo.after hostOps5 (W10 m ρ c) _ = _
    after_results
    rfl
  rw [h, W10_of m ρ c _ (by decide), W9_of m ρ c _ (by decide), show W8 m ρ c (Proc.devRef .tc main_v18_3) = _ from (W8_arr m ρ c 10).trans (pp_array (V7 m ρ) c)]
  funext i
  obtain ⟨a, rfl⟩ : ∃ a, i = ix1 a := ⟨i 0, eq_ix1 i⟩
  refine (grid_as_row _ _ a).trans ((congrArg Lane.pp (grid_state m ρ c (chanRow a) (chanCol a) 4096 le_rfl)).trans ?_)
  rw [chan_place]
  rfl

end Cert.Proof.Kernel

end
-- ==== Proof.RefParts.lean ====
/-
  What the reference's operations compute, at the extended reals, with no reference to its run: a projection, the
  logistic function as the reference spells it, and one trip of its loop at one channel.
-/
module

public import proofs.«01_k».proof.Proof.Gen.ReferenceIdeal.Run
public import proofs.«01_k».proof.Proof.Reshape
public import Idealize.ShloMosaic.Lib.IdealHost
public import Idealize.ShloMosaic.Lib.StackMember
public import Idealize.ShloMosaic.Lib.WordCmp

@[expose] public section

noncomputable section

namespace Cert.Proof.Reference

open Cert.ReferenceIdeal Cert.ReferenceIdeal.Gen Cert.ReferenceIdeal.Value Cert.Proof.Spec Cert.Proof.Layout
open Idealize.ShloMosaic Idealize.ShloMosaic.ValueIdx
open scoped BigOperators

/-! ## The projections -/

/-- The product of all the rows with a square matrix. -/
theorem dot_rows (X : FVec Ideal S4096x2048 .f32) (W : FVec Ideal S2048x2048 .f32) :
    Host.dotGeneral (F := Ideal) dot_S4096x2048_S2048x2048_S4096x2048_1_0_0_1_n_n none X W = prod X W := by
  funext j
  obtain ⟨t, h, rfl⟩ : ∃ t h, j = ix2 t h := ⟨j 0, j 1, eq_ix2 j⟩
  exact StackMember.dotGeneral_plain_apply (m := 4096) (k := 2048) (n := 2048) none X W t h

/-- A row of channels spread over all the rows. -/
theorem spread_rows (x : FVec Ideal S2048 .f32) (t : Fin 4096) (h : Fin 2048) :
    broadcastInDim S4096x2048 ![0, 1] bcast_S1x2048_S4096x2048_0_1 (broadcastInDim S1x2048 ![1] bcast_S2048_S1x2048_1 x) (ix2 t h)
      = x (ix1 h) := by
  refine (broadcastInDim_apply _ _ _ _ (ix2 (0 : Fin 1) h) fun a => ?_).trans (broadcastInDim_apply _ _ _ _ (ix1 h) fun a => ?_)
  · match a with
    | ⟨0, _⟩ => rfl
    | ⟨1, _⟩ => rfl
  · match a with
    | ⟨0, _⟩ => rfl

/-- The constant one, spread over a row of channels. -/
theorem ones_row (i : S2048.Idx) : broadcastInDim S2048 ![] bcast_S_S2048 (constant (F := Ideal) S_ .f32 0x3F800000#32) i = (1 : EReal) :=
  Ideal.ofBits_one_f32

/-- The mixed rows. -/
theorem mix_rows (tm : FVec Ideal S2048 .f32) (x cx : FVec Ideal S4096x2048 .f32) :
    addf (F := Ideal)
      (mulf x (broadcastInDim S4096x2048 ![0, 1] bcast_S1x2048_S4096x2048_0_1 (broadcastInDim S1x2048 ![1] bcast_S2048_S1x2048_1 tm)))
      (mulf cx (broadcastInDim S4096x2048 ![0, 1] bcast_S1x2048_S4096x2048_0_1 (broadcastInDim S1x2048 ![1] bcast_S2048_S1x2048_1
        (subf (broadcastInDim S2048 ![] bcast_S_S2048 (constant S_ .f32 0x3F800000#32)) tm))))
      = mix (fun a => tm (ix1 a)) x cx := by
  funext j
  obtain ⟨t, h, rfl⟩ : ∃ t h, j = ix2 t h := ⟨j 0, j 1, eq_ix2 j⟩
  rw [addf_apply, mulf_apply, mulf_apply, spread_rows, spread_rows, subf_apply, ones_row]
  rfl

/-- The logistic function, as one over one plus the exponential of the opposite. -/
theorem logistic_rows (X : FVec Ideal S4096x2048 .f32) :
    Host.divf (F := Ideal) (broadcastInDim S4096x2048 ![] bcast_S_S4096x2048 (constant S_ .f32 0x3F800000#32))
      (addf (broadcastInDim S4096x2048 ![] bcast_S_S4096x2048 (constant S_ .f32 0x3F800000#32)) (Host.exp (Host.negf X))) = gate X := by
  funext j
  show Ideal.div (Ideal.ofBits .f32 0x3F800000#32) (Ideal.ofBits .f32 0x3F800000#32 + Ideal.exp (-X j)) = Ideal.logistic (X j)
  rw [Ideal.ofBits_one_f32]
  rfl

/-! ## One trip of the loop -/

/-- The trip counter as an integer. -/
theorem counter_val (k : ℕ) (hk : k ≤ 4096) : (Scf.iv 0#32 1#32 k).toInt = (k : Int) := by
  rw [Scf.toInt_iv (lb := 0#32) (ub := 4096#32) (st := 1#32) (by decide) (show k ≤ Scf.trips 0#32 4096#32 1#32 from hk)]
  show (0 : Int) + k * 1 = k
  omega

/-- The start of the trip's slice and of its update: the counter's row, channel 0. -/
theorem trip_start (ctr : (⟨S_, .i32⟩ : BufTy).Contents (Elt Ideal)) (k : ℕ) (hk : k < 4096) (hc : ctr = fun _ => Scf.iv 0#32 1#32 k) (a : Fin 2) :
    ((((![ctr, constantI S_ 32 0#32] : Fin 2 → (⟨S_, .i32⟩ : BufTy).Contents (Elt Ideal))) a (Shape.Idx.first h_S_)).toInt) = ((![k, 0] : Fin 2 → ℕ) a : Int) := by
  subst hc
  match a with
  | ⟨0, _⟩ => exact counter_val k (le_of_lt hk)
  | ⟨1, _⟩ => rfl

/-- A row of 4096 fits. -/
theorem row_fits (k : ℕ) (hk : k < 4096) : S4096x2048.Slices ![k, 0] S1x2048 :=
  ⟨rfl, fun a => by
    match a with
    | ⟨0, _⟩ => show k + 1 ≤ 4096; omega
    | ⟨1, _⟩ => show 0 + 2048 ≤ 2048; omega⟩

/-- The slice a trip takes: the counter's row. -/
theorem slice_row (x : FVec Ideal S4096x2048 .f32) (ctr : (⟨S_, .i32⟩ : BufTy).Contents (Elt Ideal)) (k : ℕ) (hk : k < 4096)
    (hc : ctr = fun _ => Scf.iv 0#32 1#32 k) (h : Fin 2048) :
    shapeCast S2048 (Host.dynamicSlice S1x2048 x (fun a => (((![ctr, constantI S_ 32 0#32] : Fin 2 → (⟨S_, .i32⟩ : BufTy).Contents (Elt Ideal))) a (Shape.Idx.first h_S_)).toInt) sliceFits_S4096x2048_S1x2048)
      shapeCasts_S1x2048_S2048 (ix1 h) = x (ix2 ⟨k, hk⟩ h) := by
  rw [WordCmp.dynamicSlice_eq_extract S1x2048 x _ sliceFits_S4096x2048_S1x2048 ![k, 0] (row_fits k hk) (trip_start ctr k hk hc)]
  refine (matrix_as_row _ _ h).trans (extractStridedSlice_apply _ x _ _ _ fun a => ?_)
  match a with
  | ⟨0, _⟩ => rfl
  | ⟨1, _⟩ => show h.val = 0 + h.val; omega

/-- The update a trip makes: the counter's row replaced. -/
theorem update_row (x : FVec Ideal S4096x2048 .f32) (y : FVec Ideal S2048 .f32) (ctr : (⟨S_, .i32⟩ : BufTy).Contents (Elt Ideal)) (k : ℕ) (hk : k < 4096)
    (hc : ctr = fun _ => Scf.iv 0#32 1#32 k) (t : Fin 4096) (h : Fin 2048) :
    Host.dynamicUpdateSlice x (broadcastInDim S1x2048 ![1] bcast_S2048_S1x2048_1 y)
      (fun a => (((![ctr, constantI S_ 32 0#32] : Fin 2 → (⟨S_, .i32⟩ : BufTy).Contents (Elt Ideal))) a (Shape.Idx.first h_S_)).toInt) updateFits_S4096x2048_S1x2048 (ix2 t h)
      = if t.val = k then y (ix1 h) else x (ix2 t h) := by
  rw [WordCmp.dynamicUpdateSlice_eq_update x _ _ updateFits_S4096x2048_S1x2048 ![k, 0] (row_fits k hk) (trip_start ctr k hk hc)]
  unfold updateSlice
  by_cases ht : t.val = k
  · rw [if_pos ht, dif_pos (fun a => by
      match a with
      | ⟨0, _⟩ => exact ⟨show k ≤ t.val by omega, show t.val < k + 1 by omega⟩
      | ⟨1, _⟩ => exact ⟨Nat.zero_le _, show h.val < 0 + 2048 by have := h.isLt; omega⟩)]
    refine broadcastInDim_apply _ _ y _ (ix1 h) fun a => ?_
    match a with
    | ⟨0, _⟩ => show h.val = h.val - 0; omega
  · rw [if_neg ht, dif_neg]
    intro hall
    have h0 : k ≤ t.val ∧ t.val < k + 1 := hall 0
    omega

/-! Now the generated values of one trip, from contents whose counter is `k`. -/

variable (X : Valuation τ sig (Elt Ideal)) (k : ℕ) (hk : k < 4096)
  (hc : X (Proc.devRef .tc main_v42_4) = fun _ => Scf.iv 0#32 1#32 k) (h : Fin 2048)

/-- The state the contents hold for channel `h`. -/
def laneAt : Lane where
  aa := X (Proc.devRef .tc main_v42_5) (ix1 h)
  bb := X (Proc.devRef .tc main_v42_6) (ix1 h)
  pp := X (Proc.devRef .tc main_v42_7) (ix1 h)

include hc in
/-- The trip's key. -/
theorem trip_key : res_main_while0b_v48 X (ix1 h) = X (Proc.devRef .tc main_v42_0) (ix2 ⟨k, hk⟩ h) :=
  slice_row (X (Proc.devRef .tc main_v42_0)) (X (Proc.devRef .tc main_v42_4)) k hk hc h

include hc in
/-- The trip's value. -/
theorem trip_value : res_main_while0b_v49 X (ix1 h) = X (Proc.devRef .tc main_v42_1) (ix2 ⟨k, hk⟩ h) :=
  slice_row (X (Proc.devRef .tc main_v42_1)) (X (Proc.devRef .tc main_v42_4)) k hk hc h

include hc in
/-- The state after the trip is one step of the recurrence. -/
theorem trip_lane : (⟨step_main_v42_5 X (ix1 h), step_main_v42_6 X (ix1 h), step_main_v42_7 X (ix1 h)⟩ : Lane)
    = laneStep (X (Proc.devRef .tc main_v42_3) (ix1 h)) (X (Proc.devRef .tc main_v42_0) (ix2 ⟨k, hk⟩ h))
        (X (Proc.devRef .tc main_v42_1) (ix2 ⟨k, hk⟩ h)) (laneAt X h) := by
  rw [← trip_key X k hk hc h, ← trip_value X k hk hc h]
  rfl

include hc in
/-- The rows after the trip: row `k` is the step's output. -/
theorem trip_rows (t : Fin 4096) : step_main_v42_8 X (ix2 t h)
    = if t.val = k then laneOut (X (Proc.devRef .tc main_v42_2) (ix1 h)) (X (Proc.devRef .tc main_v42_0) (ix2 ⟨k, hk⟩ h))
        (X (Proc.devRef .tc main_v42_1) (ix2 ⟨k, hk⟩ h)) (laneAt X h)
      else X (Proc.devRef .tc main_v42_8) (ix2 t h) := by
  rw [← trip_key X k hk hc h, ← trip_value X k hk hc h]
  exact update_row (X (Proc.devRef .tc main_v42_8)) _ (X (Proc.devRef .tc main_v42_4)) k hk hc t h

end Cert.Proof.Reference

end
-- ==== Proof.RefEntry.lean ====
/-
  What the reference's buffers hold when its loop is entered: the layer's keys, values and receptance, the loop's other
  constants, and the state the recurrence starts from.
-/
module

public import proofs.«01_k».proof.Proof.RefParts

@[expose] public section

noncomputable section

namespace Cert.Proof.Reference

open Cert.ReferenceIdeal Cert.ReferenceIdeal.Gen Cert.ReferenceIdeal.Value Cert.Proof.Spec Cert.Proof.Layout
open Idealize.ShloMosaic Idealize.ShloMosaic.ValueIdx Idealize.ShloMosaic.StableHlo

variable (m : (ℓ : Loc nD τ sig) → Buf (Elt Ideal) ℓ) (c : Dev nD)

/-- The layer's inputs: the argument arrays of a core at launch. -/
def input : Input where
  x := m ((c.tc : Thread nD τ).loc main_arg0)
  sx := m ((c.tc : Thread nD τ).loc main_arg1)
  aa := m ((c.tc : Thread nD τ).loc main_arg2)
  bb := m ((c.tc : Thread nD τ).loc main_arg3)
  pp := m ((c.tc : Thread nD τ).loc main_arg4)
  decay := m ((c.tc : Thread nD τ).loc main_arg5)
  first := m ((c.tc : Thread nD τ).loc main_arg6)
  mixK := m ((c.tc : Thread nD τ).loc main_arg7)
  mixV := m ((c.tc : Thread nD τ).loc main_arg8)
  mixR := m ((c.tc : Thread nD τ).loc main_arg9)
  Wk := m ((c.tc : Thread nD τ).loc main_arg10)
  Wv := m ((c.tc : Thread nD τ).loc main_arg11)
  Wr := m ((c.tc : Thread nD τ).loc main_arg12)
  Wo := m ((c.tc : Thread nD τ).loc main_arg13)

/-- Every buffer's contents when the loop is entered. -/
abbrev entry : Valuation τ sig (Elt Ideal) := entryContents preI m c

/-- A buffer that no operation before the loop writes still holds its launch contents. -/
theorem entry_of (b : Ref sig .tc) (hb : b ∉ hostOps0_W) :
    entry m c (Proc.devRef .tc b) = m ((c.tc : Thread nD τ).loc b) :=
  after_of_writes_sub hostOps0 _ hostOps0_writes hb

/-- A projection of the inputs, as the reference spells it. -/
theorem proj_eq (tm : Row) (W : FVec Ideal S2048x2048 .f32) :
    Host.dotGeneral (F := Ideal) dot_S4096x2048_S2048x2048_S4096x2048_1_0_0_1_n_n none
      (addf (F := Ideal) (φ := .f32)
        (mulf (F := Ideal) (φ := .f32) (input m c).x (broadcastInDim S4096x2048 ![0, 1] bcast_S1x2048_S4096x2048_0_1 (broadcastInDim S1x2048 ![1] bcast_S2048_S1x2048_1 tm)))
        (mulf (F := Ideal) (φ := .f32) (concatenate S4096x2048 0 [⟨S1x2048, broadcastInDim S1x2048 ![1] bcast_S2048_S1x2048_1 (input m c).sx⟩,
            ⟨S4095x2048, extractStridedSlice S4095x2048 ![0, 0] (input m c).x slices_S4096x2048_S4095x2048_0_0⟩] concatenates_S1x2048_S4095x2048_S4096x2048_d0)
          (broadcastInDim S4096x2048 ![0, 1] bcast_S1x2048_S4096x2048_0_1 (broadcastInDim S1x2048 ![1] bcast_S2048_S1x2048_1
            (subf (F := Ideal) (φ := .f32) (broadcastInDim S2048 ![] bcast_S_S2048 (constant S_ .f32 0x3F800000#32)) tm))))) W
      = (input m c).proj tm W := by
  refine (dot_rows _ W).trans ?_
  rw [mix_rows tm]
  exact congrArg (fun y => prod (mix (fun a => tm (ix1 a)) (input m c).x y) W) (late_rows (input m c).sx (input m c).x _ _ _)

/-- The keys. -/
theorem key_entry : entry m c (Proc.devRef .tc main_v42_0) = (input m c).key := by
  simp only [entry, entryContents, afterL_cons, afterL_nil]
  after_reads_simp
  exact proj_eq m c (input m c).mixK (input m c).Wk

/-- The values. -/
theorem value_entry : entry m c (Proc.devRef .tc main_v42_1) = (input m c).value := by
  simp only [entry, entryContents, afterL_cons, afterL_nil]
  after_reads_simp
  exact proj_eq m c (input m c).mixV (input m c).Wv

/-- The receptance. -/
theorem recept_entry : entry m c (Proc.devRef .tc main_v36) = (input m c).recept := by
  simp only [entry, entryContents, afterL_cons, afterL_nil]
  after_reads_simp
  refine (logistic_rows _).trans ?_
  exact congrArg gate (proj_eq m c (input m c).mixR (input m c).Wr)

/-- The bonus. -/
theorem first_entry : entry m c (Proc.devRef .tc main_v42_2) = (input m c).first := by
  simp only [entry, entryContents, afterL_cons, afterL_nil]
  after_reads_simp
  rfl

/-- The decay. -/
theorem rate_entry (h : Fin 2048) : entry m c (Proc.devRef .tc main_v42_3) (ix1 h) = (input m c).rate h := by
  have e : entry m c (Proc.devRef .tc main_v42_3) = Host.negf (F := Ideal) (φ := .f32) (Host.exp (F := Ideal) (φ := .f32) (input m c).decay) := by
    simp only [entry, entryContents, afterL_cons, afterL_nil]
    after_reads_simp
    rfl
  rw [e]
  rfl

/-- The numerator the recurrence starts from. -/
theorem aa_entry : entry m c (Proc.devRef .tc main_v42_5) = (input m c).aa := by
  simp only [entry, entryContents, afterL_cons, afterL_nil]
  after_reads_simp
  rfl

/-- The denominator it starts from. -/
theorem bb_entry : entry m c (Proc.devRef .tc main_v42_6) = (input m c).bb := by
  simp only [entry, entryContents, afterL_cons, afterL_nil]
  after_reads_simp
  rfl

/-- The maximum exponent it starts from. -/
theorem pp_entry : entry m c (Proc.devRef .tc main_v42_7) = (input m c).pp := by
  simp only [entry, entryContents, afterL_cons, afterL_nil]
  after_reads_simp
  rfl

/-- The state the recurrence starts from. -/
theorem lane_entry (h : Fin 2048) : laneAt (entry m c) h = (input m c).state h 0 := by
  unfold laneAt
  rw [aa_entry, bb_entry, pp_entry]
  rfl

end Cert.Proof.Reference

end
-- ==== Proof.RefLoop.lean ====
/-
  The reference's loop: after `k` trips each channel's state is the layer's state after `k` rows, and the first `k` rows
  are the layer's WKV rows. Then the reference's results, and its run.
-/
module

public import proofs.«01_k».proof.Proof.RefEntry

@[expose] public section

noncomputable section

namespace Cert.Proof.Reference

open Cert.ReferenceIdeal Cert.ReferenceIdeal.Gen Cert.ReferenceIdeal.Value Cert.Proof.Spec Cert.Proof.Layout
open Idealize.ShloMosaic Idealize.ShloMosaic.ValueIdx Idealize.ShloMosaic.StableHlo Idealize.ShloMosaic.TcCoe Idealize.SL.Sem

variable (m : (ℓ : Loc nD τ sig) → Buf (Elt Ideal) ℓ) (c : Dev nD)

/-! ## What the loop leaves alone -/

/-- The buffers the loop writes. -/
abbrev loopWrites : List (Ref sig .tc) := condOps_W ++ while0Ops0_W ++ while0Ops0_1_W ++ while0Ops0_2_W ++ while0Ops0_3_W ++ while0Ops0_4_W

/-- A list of operations that writes among some of the loop's buffers leaves every other buffer alone. -/
theorem ops_keep (ops : List (HloOp τ sig (Elt Ideal))) (W : List (Ref sig .tc)) (V : Valuation τ sig (Elt Ideal))
    (hw : ops.Forall fun op => op.writes ⊆ (W.map (Proc.devRef (τ := τ) .tc)).toFinset) (hW : W ⊆ loopWrites)
    (b : Ref sig .tc) (hb : b ∉ loopWrites) :
    after ops V (Proc.devRef .tc b) = V (Proc.devRef .tc b) :=
  after_of_writes_sub ops V hw fun h => hb (hW h)

/-- A trip leaves every buffer the loop does not write alone. -/
theorem trip_keep (V : Valuation τ sig (Elt Ideal)) (b : Ref sig .tc)
    (hb : b ∉ loopWrites) :
    afterL bodyI (after condOps V) (Proc.devRef .tc b) = V (Proc.devRef .tc b) := by
  simp only [afterL_cons, afterL_nil]
  rw [ops_keep _ _ _ while0Ops0_4_writes (by decide) b hb, ops_keep _ _ _ while0Ops0_3_writes (by decide) b hb,
    ops_keep _ _ _ while0Ops0_2_writes (by decide) b hb, ops_keep _ _ _ while0Ops0_1_writes (by decide) b hb,
    ops_keep _ _ _ while0Ops0_writes (by decide) b hb, ops_keep _ _ _ condOps_writes (by decide) b hb]

/-- So do any number of trips. -/
theorem loop_keep (b : Ref sig .tc) (hb : b ∉ loopWrites) :
    ∀ k, atK m k c (Proc.devRef .tc b) = entry m c (Proc.devRef .tc b)
  | 0 => rfl
  | k + 1 => (trip_keep (atK m k c) b hb).trans (loop_keep b hb k)

/-! ## The loop's constants -/

/-- The keys stay. -/
theorem key_loop : ∀ k, atK m k c (Proc.devRef .tc main_v42_0) = (input m c).key
  | 0 => key_entry m c
  | k + 1 => (trip_agree (atK m k c) main_v42_0 (by decide)).trans ((STEP_main_v42_0 _).trans (key_loop k))

/-- The values stay. -/
theorem value_loop : ∀ k, atK m k c (Proc.devRef .tc main_v42_1) = (input m c).value
  | 0 => value_entry m c
  | k + 1 => (trip_agree (atK m k c) main_v42_1 (by decide)).trans ((STEP_main_v42_1 _).trans (value_loop k))

/-- The bonus stays. -/
theorem first_loop : ∀ k, atK m k c (Proc.devRef .tc main_v42_2) = (input m c).first
  | 0 => first_entry m c
  | k + 1 => (trip_agree (atK m k c) main_v42_2 (by decide)).trans ((STEP_main_v42_2 _).trans (first_loop k))

/-- The decay stays. -/
theorem rate_loop (h : Fin 2048) : ∀ k, atK m k c (Proc.devRef .tc main_v42_3) (ix1 h) = (input m c).rate h
  | 0 => rate_entry m c h
  | k + 1 => (congrFun ((trip_agree (atK m k c) main_v42_3 (by decide)).trans (STEP_main_v42_3 _)) (ix1 h)).trans (rate_loop h k)

/-! ## The state and the rows -/

/-- After `k` trips a channel's state is the layer's state after `k` rows. -/
theorem lane_loop (h : Fin 2048) : ∀ k, k ≤ 4096 → laneAt (atK m k c) h = (input m c).state h k
  | 0, _ => lane_entry m c h
  | k + 1, hk => by
    have hl : laneAt (atK m (k + 1) c) h
        = ⟨step_main_v42_5 (atK m k c) (ix1 h), step_main_v42_6 (atK m k c) (ix1 h), step_main_v42_7 (atK m k c) (ix1 h)⟩ := by
      unfold laneAt
      rw [show atK m (k + 1) c (Proc.devRef .tc main_v42_5) = _ from (trip_agree (atK m k c) main_v42_5 (by decide)).trans (STEP_main_v42_5 _),
        show atK m (k + 1) c (Proc.devRef .tc main_v42_6) = _ from (trip_agree (atK m k c) main_v42_6 (by decide)).trans (STEP_main_v42_6 _),
        show atK m (k + 1) c (Proc.devRef .tc main_v42_7) = _ from (trip_agree (atK m k c) main_v42_7 (by decide)).trans (STEP_main_v42_7 _)]
    rw [hl, trip_lane (atK m k c) k hk (atK_ctr m c k) h, key_loop, value_loop, rate_loop, lane_loop h k (Nat.le_of_succ_le hk)]
    show _ = laneStep ((input m c).rate h) (rowAt (input m c).key h k) (rowAt (input m c).value h k) ((input m c).state h k)
    have e : (⟨k % 4096, Nat.mod_lt _ (by decide)⟩ : Fin 4096) = ⟨k, hk⟩ := Fin.ext (Nat.mod_eq_of_lt hk)
    unfold rowAt
    rw [e]

/-- The numerator after `k` trips. -/
theorem aa_loop (k : ℕ) (hk : k ≤ 4096) : atK m k c (Proc.devRef .tc main_v42_5) = fun i : S2048.Idx => ((input m c).state (i 0) k).aa := by
  funext j
  obtain ⟨a, rfl⟩ : ∃ a, j = ix1 a := ⟨j 0, eq_ix1 j⟩
  exact congrArg Lane.aa (lane_loop m c a k hk)

/-- The denominator after `k` trips. -/
theorem bb_loop (k : ℕ) (hk : k ≤ 4096) : atK m k c (Proc.devRef .tc main_v42_6) = fun i : S2048.Idx => ((input m c).state (i 0) k).bb := by
  funext j
  obtain ⟨a, rfl⟩ : ∃ a, j = ix1 a := ⟨j 0, eq_ix1 j⟩
  exact congrArg Lane.bb (lane_loop m c a k hk)

/-- The maximum exponent after `k` trips. -/
theorem pp_loop (k : ℕ) (hk : k ≤ 4096) : atK m k c (Proc.devRef .tc main_v42_7) = fun i : S2048.Idx => ((input m c).state (i 0) k).pp := by
  funext j
  obtain ⟨a, rfl⟩ : ∃ a, j = ix1 a := ⟨j 0, eq_ix1 j⟩
  exact congrArg Lane.pp (lane_loop m c a k hk)

/-- After `k` trips the first `k` rows are the layer's WKV rows. -/
theorem rows_loop (h : Fin 2048) (t : Fin 4096) : ∀ k, k ≤ 4096 → t.val < k →
    atK m k c (Proc.devRef .tc main_v42_8) (ix2 t h) = (input m c).rows (ix2 t h)
  | 0, _, ht => absurd ht (Nat.not_lt_zero _)
  | k + 1, hk, ht => by
    rw [show atK m (k + 1) c (Proc.devRef .tc main_v42_8) = _ from (trip_agree (atK m k c) main_v42_8 (by decide)).trans (STEP_main_v42_8 _),
      trip_rows (atK m k c) k hk (atK_ctr m c k) h t]
    by_cases e : t.val = k
    · rw [if_pos e, key_loop, value_loop, first_loop, lane_loop m c h k (Nat.le_of_succ_le hk)]
      subst e
      rfl
    · rw [if_neg e]
      exact rows_loop h t k (Nat.le_of_succ_le hk) (by omega)

/-- After the loop the rows are the layer's WKV rows. -/
theorem rows_exit : atK m 4096 c (Proc.devRef .tc main_v42_8) = (input m c).rows := by
  funext j
  obtain ⟨t, h, rfl⟩ : ∃ t h, j = ix2 t h := ⟨j 0, j 1, eq_ix2 j⟩
  exact rows_loop m c h t 4096 (le_refl _) t.isLt

/-! ## After the loop -/

/-- The buffers written after the loop. -/
abbrev lastWrites : List (Ref sig .tc) := [main_v43, main_v44, main_v45, main_v46, main_v47]

/-- The output rows, of the contents at the end of the loop. -/
theorem out_after (V : Valuation τ sig (Elt Ideal)) : after hostOps0_1 V (Proc.devRef .tc main_v45)
    = addf (F := Ideal) (s := S4096x2048) (φ := .f32) (V (Proc.devRef .tc main_arg0))
      (prod (mulf (F := Ideal) (s := S4096x2048) (φ := .f32) (V (Proc.devRef .tc main_v36)) (V (Proc.devRef .tc main_v42_8)))
        (V (Proc.devRef .tc main_arg13))) := by
  rw [← dot_rows]
  after_results

/-- The last row, of the contents at the end of the loop. -/
theorem last_after (V : Valuation τ sig (Elt Ideal)) : after hostOps0_1 V (Proc.devRef .tc main_v47)
    = shapeCast S2048 (extractStridedSlice S1x2048 ![4095, 0] (V (Proc.devRef .tc main_arg0)) slices_S4096x2048_S1x2048_4095_0)
      shapeCasts_S1x2048_S2048 := by
  after_results
  rfl

/-- Every other buffer is left alone after the loop. -/
theorem other_after (V : Valuation τ sig (Elt Ideal)) (b : Ref sig .tc) (hb : b ∉ lastWrites) :
    after hostOps0_1 V (Proc.devRef .tc b) = V (Proc.devRef .tc b) :=
  after_of_writes_sub (W := lastWrites) hostOps0_1 V (StableHlo.forall_writes_sub_of_map rfl) hb

/-! ## The results -/

/-- Every buffer's contents when the loop is left: the trips, and the condition that fails. -/
def left : Valuation τ sig (Elt Ideal) := after condOps (atK m 4096 c)

/-- Every buffer's contents when the reference ends. -/
def exit : Valuation τ sig (Elt Ideal) := after hostOps0_1 (left m c)

/-- The failing condition writes none of the buffers that matter. -/
theorem left_of (b : Ref sig .tc) (hb : b ∉ condOps_W) : left m c (Proc.devRef .tc b) = atK m 4096 c (Proc.devRef .tc b) :=
  after_of_writes_sub condOps _ condOps_writes hb

/-- The argument arrays. -/
abbrev args : List (Ref sig .tc) := [main_arg0, main_arg1, main_arg2, main_arg3, main_arg4, main_arg5, main_arg6, main_arg7,
  main_arg8, main_arg9, main_arg10, main_arg11, main_arg12, main_arg13]

/-- No operation writes an argument array. -/
theorem args_apart : ∀ b ∈ args, b ∉ lastWrites ∧ b ∉ condOps_W ∧ b ∉ loopWrites ∧ b ∉ hostOps0_W := by
  decide +kernel

/-- Every argument array is as launched when the loop is left. -/
theorem left_args (b : Ref sig .tc) (hb : b ∈ args) : left m c (Proc.devRef .tc b) = m ((c.tc : Thread nD τ).loc b) :=
  (left_of m c b (args_apart b hb).2.1).trans
    ((loop_keep m c b (args_apart b hb).2.2.1 4096).trans (entry_of m c b (args_apart b hb).2.2.2))

/-- Every argument array ends as launched. -/
theorem exit_args (b : Ref sig .tc) (hb : b ∈ args) : exit m c (Proc.devRef .tc b) = m ((c.tc : Thread nD τ).loc b) :=
  (other_after _ b (args_apart b hb).1).trans (left_args m c b hb)

/-- Result 1: the output rows. -/
theorem out_exit : exit m c (Proc.devRef .tc main_v45) = (input m c).out := by
  refine (out_after (left m c)).trans ?_
  rw [left_of m c main_v36 (by decide +kernel), left_of m c main_v42_8 (by decide +kernel), rows_exit,
    loop_keep m c main_v36 (by decide +kernel) 4096, recept_entry, left_args m c main_arg0 (by decide), left_args m c main_arg13 (by decide)]
  rfl

/-- Result 2: the last row. -/
theorem last_exit : exit m c (Proc.devRef .tc main_v47) = (input m c).last := by
  refine (last_after (left m c)).trans ?_
  rw [left_args m c main_arg0 (by decide)]
  funext j
  obtain ⟨a, rfl⟩ : ∃ a, j = ix1 a := ⟨j 0, eq_ix1 j⟩
  exact (matrix_as_row _ _ a).trans (last_row _ _ a)

/-- A state buffer that ends as the last trip leaves it. -/
theorem exit_state (b : Ref sig .tc) (h1 : b ∉ lastWrites) (h2 : b ∉ condOps_W) :
    exit m c (Proc.devRef .tc b) = atK m 4096 c (Proc.devRef .tc b) :=
  (other_after _ b h1).trans (left_of m c b h2)

/-- Result 3: the numerator after all rows. -/
theorem aa_exit : exit m c (Proc.devRef .tc main_v42_5) = (input m c).aaEnd := by
  exact (exit_state m c main_v42_5 (by decide +kernel) (by decide +kernel)).trans (aa_loop m c 4096 (le_refl _))

/-- Result 4: the denominator after all rows. -/
theorem bb_exit : exit m c (Proc.devRef .tc main_v42_6) = (input m c).bbEnd := by
  exact (exit_state m c main_v42_6 (by decide +kernel) (by decide +kernel)).trans (bb_loop m c 4096 (le_refl _))

/-- Result 5: the maximum exponent after all rows. -/
theorem pp_exit : exit m c (Proc.devRef .tc main_v42_7) = (input m c).ppEnd := by
  exact (exit_state m c main_v42_7 (by decide +kernel) (by decide +kernel)).trans (pp_loop m c 4096 (le_refl _))

/-- Every execution of the reference ends with these contents in every buffer that is not a temporary. -/
theorem run_exit (ρ : Dev nD → PrngReg) : θ_run (defs (F := Ideal)) (onTc (τ := τ) (main (F := Ideal))) ⟨m, fun _ => 0, ρ⟩
    (fun r => ∀ (c : Dev nD) (b : Ref sig .tc), (Proc.devRef .tc b : DevRef τ sig).isScoped = false →
      r.2.mem ((c.tc : Thread nD τ).loc b) = exit m c (Proc.devRef .tc b)) :=
  run_fold m ρ

end Cert.Proof.Reference

end
-- ==== Proof.lean ====
/-
  The certificate's claim, assembled. The three programs run and leave their arguments alone; the idealized kernel is the
  kernel's own text read at the extended reals; and the idealized kernel and the reference both compute the layer of
  Proof/Layer.lean, all five results, from the contents of their argument arrays.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefLoop
public import Idealize.ShloMosaic.Lib.Quiescent
public import Idealize.ShloMosaic.Adequacy
public import Idealize.ShloMosaic.Init

@[expose] public section

noncomputable section

namespace Cert.Proof

open Idealize.ShloMosaic Idealize.SL.Sem

/-- Every execution of the reference ends, with its arguments as launched and every semaphore counter at zero. -/
theorem reference_runs : Cert.quiescent_ReferenceIdeal (hReferenceIdeal := Cert.ReferenceIdeal.Gen.facts) := fun m ρ _ =>
  (Reference.run_exit m ρ).mono fun r h =>
    have a (c : Dev Cert.ReferenceIdeal.nD) (b : Ref Cert.ReferenceIdeal.sig .tc) (hb : b ∈ Reference.args)
        (hs : (Proc.devRef .tc b : DevRef Cert.ReferenceIdeal.τ Cert.ReferenceIdeal.sig).isScoped = false) :=
      (h c b hs).trans (Reference.exit_args m c b hb)
    ⟨fun c => ⟨a c _ (by decide) rfl, a c _ (by decide) rfl, a c _ (by decide) rfl, a c _ (by decide) rfl, a c _ (by decide) rfl,
        a c _ (by decide) rfl, a c _ (by decide) rfl, a c _ (by decide) rfl, a c _ (by decide) rfl, a c _ (by decide) rfl,
        a c _ (by decide) rfl, a c _ (by decide) rfl, a c _ (by decide) rfl, a c _ (by decide) rfl⟩,
      sem_eq_zero_of_no_sems (by decide) _⟩

/-- When the two programs' argument arrays agree, so do the layer's inputs. -/
theorem input_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Reference.input m' c = Kernel.input m c := by
  unfold Reference.input Kernel.input
  rw [h0, h1, h2, h3, h4, h5, h6, h7, h8, h9, h10, h11, h12, h13]

/-- The idealized kernel and the reference end with equal results, and leave their arguments alone. -/
theorem results_agree : Cert.algebraic_KernelIdeal_ReferenceIdeal (hKernelIdeal := Cert.KernelIdeal.Gen.facts)
    (hReferenceIdeal := Cert.ReferenceIdeal.Gen.facts) := fun m ρ m' ρ' _ hm =>
  have hin (c : Dev Cert.KernelIdeal.nD) : Reference.input m' c = Kernel.input m c := by
    obtain ⟨h0, h1, h2, h3, h4, h5, h6, h7, h8, h9, h10, h11, h12, h13⟩ := hm c
    exact input_agree m m' c h0 h1 h2 h3 h4 h5 h6 h7 h8 h9 h10 h11 h12 h13
  ⟨fun c => (Kernel.input m c).out, fun c => (Kernel.input m c).last, fun c => (Kernel.input m c).aaEnd,
    fun c => (Kernel.input m c).bbEnd, fun c => (Kernel.input m c).ppEnd,
    (Kernel.run_bounds m ρ).mono fun r h c =>
      have a (b : Ref Cert.KernelIdeal.sig .tc) (hb : b ∈ Cert.KernelIdeal.Gen.argRefs)
          (hs : ¬ (Proc.devRef .tc b : DevRef Cert.KernelIdeal.τ Cert.KernelIdeal.sig).isScoped) :=
        (h c b hs).trans (Cert.KernelIdeal.Gen.W11_args m ρ c b hb)
      ⟨(h c _ (by decide)).trans (Kernel.out_exit m ρ c), (h c _ (by decide)).trans (Kernel.last_exit m ρ c),
        (h c _ (by decide)).trans (Kernel.aa_exit m ρ c), (h c _ (by decide)).trans (Kernel.bb_exit m ρ c),
        (h c _ (by decide)).trans (Kernel.pp_exit m ρ c),
        a _ (by decide) (by decide), a _ (by decide) (by decide), a _ (by decide) (by decide), a _ (by decide) (by decide), a _ (by decide) (by decide),
        a _ (by decide) (by decide), a _ (by decide) (by decide), a _ (by decide) (by decide), a _ (by decide) (by decide), a _ (by decide) (by decide),
        a _ (by decide) (by decide), a _ (by decide) (by decide), a _ (by decide) (by decide), a _ (by decide) (by decide)⟩,
    (Reference.run_exit m' ρ').mono fun r h c =>
      have a (b : Ref Cert.ReferenceIdeal.sig .tc) (hb : b ∈ Reference.args)
          (hs : (Proc.devRef .tc b : DevRef Cert.ReferenceIdeal.τ Cert.ReferenceIdeal.sig).isScoped = false) :=
        (h c b hs).trans (Reference.exit_args m' c b hb)
      ⟨(h c _ rfl).trans ((Reference.out_exit m' c).trans (congrArg Spec.Input.out (hin c))),
        (h c _ rfl).trans ((Reference.last_exit m' c).trans (congrArg Spec.Input.last (hin c))),
        (h c _ rfl).trans ((Reference.aa_exit m' c).trans (congrArg Spec.Input.aaEnd (hin c))),
        (h c _ rfl).trans ((Reference.bb_exit m' c).trans (congrArg Spec.Input.bbEnd (hin c))),
        (h c _ rfl).trans ((Reference.pp_exit m' c).trans (congrArg Spec.Input.ppEnd (hin c))),
        a _ (by decide) rfl, a _ (by decide) rfl, a _ (by decide) rfl, a _ (by decide) rfl, a _ (by decide) rfl, a _ (by decide) rfl, a _ (by decide) rfl,
        a _ (by decide) rfl, a _ (by decide) rfl, a _ (by decide) rfl, a _ (by decide) rfl, a _ (by decide) rfl, a _ (by decide) rfl, a _ (by decide) rfl⟩⟩

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_runs, trivial, results_agree⟩

end Cert.Proof

end
